-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v10) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192x1024 : Shape := ⟨3, ![4, 8192, 1024]⟩
abbrev S8192x1024 : Shape := ⟨2, ![8192, 1024]⟩
abbrev S4x8x1024 : Shape := ⟨3, ![4, 8, 1024]⟩
abbrev S8x1024 : Shape := ⟨2, ![8, 1024]⟩
abbrev S_ : Shape := ⟨0, ![]⟩
abbrev S1x16 : Shape := ⟨2, ![1, 16]⟩
abbrev S16 : Shape := ⟨1, ![16]⟩
abbrev S1x1x16 : Shape := ⟨3, ![1, 1, 16]⟩

abbrev nBuf : Table → Nat
  | .hbm => 3
  | .local .scVector .vmem => 6
  | _ => 0

abbrev bufTy : (tb : Table) → Fin (nBuf tb) → BufTy
  | .hbm, ⟨0, _⟩ => ⟨S4x8192x1024, .f32⟩
  | .hbm, ⟨1, _⟩ => ⟨S8192x1024, .f32⟩
  | .hbm, ⟨2, _⟩ => ⟨S4x8192x1024, .f32⟩
  | .local .scVector .vmem, ⟨0, _⟩ => ⟨S4x8x1024, .f32⟩
  | .local .scVector .vmem, ⟨1, _⟩ => ⟨S4x8x1024, .f32⟩
  | .local .scVector .vmem, ⟨2, _⟩ => ⟨S4x8x1024, .f32⟩
  | .local .scVector .vmem, ⟨3, _⟩ => ⟨S8x1024, .f32⟩
  | .local .scVector .vmem, ⟨4, _⟩ => ⟨S8x1024, .f32⟩
  | .local .scVector .vmem, ⟨5, _⟩ => ⟨S8x1024, .f32⟩
  | _, _ => ⟨S4x8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let c0_i32_0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi v2 c0_i32
  let c0_i32_1 : BitVec 32 := 0#32
  ![0, v3.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32 : BitVec 32 := 0#32
  let v3 : BitVec 32 := Scalar.addi v2 c0_i32
  let c0_i32_4 : BitVec 32 := 0#32
  ![v3.toNat, 0]
def k0_off3 (i : grid0.Coords) (c1_i32 : BitVec 32) : Fin 3 → Nat :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v_false : BitVec 1 := 0#1
  let c0_i32_6 : BitVec 32 := 0#32
  let v8 : BitVec 32 := Scalar.select v_false c0_i32_6 c1_i32
  let c8_i32 : BitVec 32 := 8#32
  let v9 : BitVec 32 := Scalar.muli v8 c8_i32
  let v10 : BitVec 32 := Scalar.addi v2 v9
  let c0_i32_8 : BitVec 32 := 0#32
  ![0, v10.toNat, 0]
def k0_off4 (i : grid0.Coords) (c1_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v_false : BitVec 1 := 0#1
  let c0_i32_6 : BitVec 32 := 0#32
  let v8 : BitVec 32 := Scalar.select v_false c0_i32_6 c1_i32
  let c8_i32 : BitVec 32 := 8#32
  let v9 : BitVec 32 := Scalar.muli v8 c8_i32
  let v10 : BitVec 32 := Scalar.addi v2 v9
  let c0_i32_11 : BitVec 32 := 0#32
  ![v10.toNat, 0]
@[reducible] def k0_t1_loop : Scf.Loop 32 :=
  let c0_i32_23 : BitVec 32 := 0#32
  let c512_i32 : BitVec 32 := 512#32
  let v19 : BitVec 32 := Scalar.addi c0_i32_23 c512_i32
  let c1_i32_24 : BitVec 32 := 1#32
  ⟨c0_i32_23, v19, c1_i32_24⟩
def k0_off5 (k0_t1 : Fin k0_t1_loop.trips) : Fin 2 → Nat :=
  let c0_i32_23 : BitVec 32 := 0#32
  let c1_i32_24 : BitVec 32 := 1#32
  let arg20 : BitVec 32 := Scf.iv c0_i32_23 c1_i32_24 k0_t1
  let c6_i32 : BitVec 32 := 6#32
  let v47 : BitVec 32 := Scalar.shrsi arg20 c6_i32
  let v50 : Index := Scalar.indexCast v47
  let c63_i32 : BitVec 32 := 63#32
  let v48 : BitVec 32 := Scalar.andi arg20 c63_i32
  let c16_i32 : BitVec 32 := 16#32
  let v49 : BitVec 32 := Scalar.muli v48 c16_i32
  let v51 : Index := Scalar.indexCast v49
  ![v50.toNat, v51.toNat]
def k0_off6 (k0_t1 : Fin k0_t1_loop.trips) : Fin 3 → Nat :=
  let c0_i32_85 : BitVec 32 := 0#32
  let v54 : Index := Scalar.indexCast c0_i32_85
  let c0_i32_23 : BitVec 32 := 0#32
  let c1_i32_24 : BitVec 32 := 1#32
  let arg20 : BitVec 32 := Scf.iv c0_i32_23 c1_i32_24 k0_t1
  let c6_i32 : BitVec 32 := 6#32
  let v47 : BitVec 32 := Scalar.shrsi arg20 c6_i32
  let v55 : Index := Scalar.indexCast v47
  let c63_i32 : BitVec 32 := 63#32
  let v48 : BitVec 32 := Scalar.andi arg20 c63_i32
  let c16_i32 : BitVec 32 := 16#32
  let v49 : BitVec 32 := Scalar.muli v48 c16_i32
  let v56 : Index := Scalar.indexCast v49
  ![0, v55.toNat, v56.toNat]
def k0_off7 (k0_t1 : Fin k0_t1_loop.trips) : Fin 3 → Nat :=
  let c1_i32_87 : BitVec 32 := 1#32
  let v66 : Index := Scalar.indexCast c1_i32_87
  let c0_i32_23 : BitVec 32 := 0#32
  let c1_i32_24 : BitVec 32 := 1#32
  let arg20 : BitVec 32 := Scf.iv c0_i32_23 c1_i32_24 k0_t1
  let c6_i32 : BitVec 32 := 6#32
  let v47 : BitVec 32 := Scalar.shrsi arg20 c6_i32
  let v67 : Index := Scalar.indexCast v47
  let c63_i32 : BitVec 32 := 63#32
  let v48 : BitVec 32 := Scalar.andi arg20 c63_i32
  let c16_i32 : BitVec 32 := 16#32
  let v49 : BitVec 32 := Scalar.muli v48 c16_i32
  let v68 : Index := Scalar.indexCast v49
  ![1, v67.toNat, v68.toNat]
def k0_off8 (k0_t1 : Fin k0_t1_loop.trips) : Fin 3 → Nat :=
  let c2_i32_89 : BitVec 32 := 2#32
  let v78 : Index := Scalar.indexCast c2_i32_89
  let c0_i32_23 : BitVec 32 := 0#32
  let c1_i32_24 : BitVec 32 := 1#32
  let arg20 : BitVec 32 := Scf.iv c0_i32_23 c1_i32_24 k0_t1
  let c6_i32 : BitVec 32 := 6#32
  let v47 : BitVec 32 := Scalar.shrsi arg20 c6_i32
  let v79 : Index := Scalar.indexCast v47
  let c63_i32 : BitVec 32 := 63#32
  let v48 : BitVec 32 := Scalar.andi arg20 c63_i32
  let c16_i32 : BitVec 32 := 16#32
  let v49 : BitVec 32 := Scalar.muli v48 c16_i32
  let v80 : Index := Scalar.indexCast v49
  ![2, v79.toNat, v80.toNat]
def k0_off9 (k0_t1 : Fin k0_t1_loop.trips) : Fin 3 → Nat :=
  let c3_i32 : BitVec 32 := 3#32
  let v90 : Index := Scalar.indexCast c3_i32
  let c0_i32_23 : BitVec 32 := 0#32
  let c1_i32_24 : BitVec 32 := 1#32
  let arg20 : BitVec 32 := Scf.iv c0_i32_23 c1_i32_24 k0_t1
  let c6_i32 : BitVec 32 := 6#32
  let v47 : BitVec 32 := Scalar.shrsi arg20 c6_i32
  let v91 : Index := Scalar.indexCast v47
  let c63_i32 : BitVec 32 := 63#32
  let v48 : BitVec 32 := Scalar.andi arg20 c63_i32
  let c16_i32 : BitVec 32 := 16#32
  let v49 : BitVec 32 := Scalar.muli v48 c16_i32
  let v92 : Index := Scalar.indexCast v49
  ![3, v91.toNat, v92.toNat]
@[reducible] def k0_t2_loop : Scf.Loop 32 :=
  let c0_i32_51 : BitVec 32 := 0#32
  let c512_i32_52 : BitVec 32 := 512#32
  let v34 : BitVec 32 := Scalar.addi c0_i32_51 c512_i32_52
  let c1_i32_53 : BitVec 32 := 1#32
  ⟨c0_i32_51, v34, c1_i32_53⟩
def k0_off10 (k0_t2 : Fin k0_t2_loop.trips) : Fin 2 → Nat :=
  let c0_i32_51 : BitVec 32 := 0#32
  let c1_i32_53 : BitVec 32 := 1#32
  let arg20 : BitVec 32 := Scf.iv c0_i32_51 c1_i32_53 k0_t2
  let c6_i32 : BitVec 32 := 6#32
  let v47 : BitVec 32 := Scalar.shrsi arg20 c6_i32
  let v50 : Index := Scalar.indexCast v47
  let c63_i32 : BitVec 32 := 63#32
  let v48 : BitVec 32 := Scalar.andi arg20 c63_i32
  let c16_i32 : BitVec 32 := 16#32
  let v49 : BitVec 32 := Scalar.muli v48 c16_i32
  let v51 : Index := Scalar.indexCast v49
  ![v50.toNat, v51.toNat]
def k0_off11 (k0_t2 : Fin k0_t2_loop.trips) : Fin 3 → Nat :=
  let c0_i32_85 : BitVec 32 := 0#32
  let v54 : Index := Scalar.indexCast c0_i32_85
  let c0_i32_51 : BitVec 32 := 0#32
  let c1_i32_53 : BitVec 32 := 1#32
  let arg20 : BitVec 32 := Scf.iv c0_i32_51 c1_i32_53 k0_t2
  let c6_i32 : BitVec 32 := 6#32
  let v47 : BitVec 32 := Scalar.shrsi arg20 c6_i32
  let v55 : Index := Scalar.indexCast v47
  let c63_i32 : BitVec 32 := 63#32
  let v48 : BitVec 32 := Scalar.andi arg20 c63_i32
  let c16_i32 : BitVec 32 := 16#32
  let v49 : BitVec 32 := Scalar.muli v48 c16_i32
  let v56 : Index := Scalar.indexCast v49
  ![0, v55.toNat, v56.toNat]
def k0_off12 (k0_t2 : Fin k0_t2_loop.trips) : Fin 3 → Nat :=
  let c1_i32_87 : BitVec 32 := 1#32
  let v66 : Index := Scalar.indexCast c1_i32_87
  let c0_i32_51 : BitVec 32 := 0#32
  let c1_i32_53 : BitVec 32 := 1#32
  let arg20 : BitVec 32 := Scf.iv c0_i32_51 c1_i32_53 k0_t2
  let c6_i32 : BitVec 32 := 6#32
  let v47 : BitVec 32 := Scalar.shrsi arg20 c6_i32
  let v67 : Index := Scalar.indexCast v47
  let c63_i32 : BitVec 32 := 63#32
  let v48 : BitVec 32 := Scalar.andi arg20 c63_i32
  let c16_i32 : BitVec 32 := 16#32
  let v49 : BitVec 32 := Scalar.muli v48 c16_i32
  let v68 : Index := Scalar.indexCast v49
  ![1, v67.toNat, v68.toNat]
def k0_off13 (k0_t2 : Fin k0_t2_loop.trips) : Fin 3 → Nat :=
  let c2_i32_89 : BitVec 32 := 2#32
  let v78 : Index := Scalar.indexCast c2_i32_89
  let c0_i32_51 : BitVec 32 := 0#32
  let c1_i32_53 : BitVec 32 := 1#32
  let arg20 : BitVec 32 := Scf.iv c0_i32_51 c1_i32_53 k0_t2
  let c6_i32 : BitVec 32 := 6#32
  let v47 : BitVec 32 := Scalar.shrsi arg20 c6_i32
  let v79 : Index := Scalar.indexCast v47
  let c63_i32 : BitVec 32 := 63#32
  let v48 : BitVec 32 := Scalar.andi arg20 c63_i32
  let c16_i32 : BitVec 32 := 16#32
  let v49 : BitVec 32 := Scalar.muli v48 c16_i32
  let v80 : Index := Scalar.indexCast v49
  ![2, v79.toNat, v80.toNat]
def k0_off14 (k0_t2 : Fin k0_t2_loop.trips) : Fin 3 → Nat :=
  let c3_i32 : BitVec 32 := 3#32
  let v90 : Index := Scalar.indexCast c3_i32
  let c0_i32_51 : BitVec 32 := 0#32
  let c1_i32_53 : BitVec 32 := 1#32
  let arg20 : BitVec 32 := Scf.iv c0_i32_51 c1_i32_53 k0_t2
  let c6_i32 : BitVec 32 := 6#32
  let v47 : BitVec 32 := Scalar.shrsi arg20 c6_i32
  let v91 : Index := Scalar.indexCast v47
  let c63_i32 : BitVec 32 := 63#32
  let v48 : BitVec 32 := Scalar.andi arg20 c63_i32
  let c16_i32 : BitVec 32 := 16#32
  let v49 : BitVec 32 := Scalar.muli v48 c16_i32
  let v92 : Index := Scalar.indexCast v49
  ![3, v91.toNat, v92.toNat]
@[reducible] def k0_t3_loop : Scf.Loop 32 :=
  let c2_i32_60 : BitVec 32 := 2#32
  let c30_i32 : BitVec 32 := 30#32
  let v38 : BitVec 32 := Scalar.addi c2_i32_60 c30_i32
  let c1_i32_61 : BitVec 32 := 1#32
  ⟨c2_i32_60, v38, c1_i32_61⟩
def k0_cond1 (k0_t3 : Fin k0_t3_loop.trips) : BitVec 1 :=
  let c2_i32_60 : BitVec 32 := 2#32
  let c1_i32_61 : BitVec 32 := 1#32
  let arg20 : BitVec 32 := Scf.iv c2_i32_60 c1_i32_61 k0_t3
  let c3_i32 : BitVec 32 := 3#32
  let c0_i32_85 : BitVec 32 := 0#32
  let v47 : BitVec 1 := Scalar.cmpi .eq c3_i32 c0_i32_85
  let c1_i32_86 : BitVec 32 := 1#32
  let v48 : BitVec 32 := Scalar.select v47 c1_i32_86 c3_i32
  let v49 : BitVec 32 := Scalar.remsi arg20 v48
  let c0_i32_88 : BitVec 32 := 0#32
  let v51 : BitVec 1 := Scalar.cmpi .slt v49 c0_i32_88
  let c0_i32_89 : BitVec 32 := 0#32
  let v52 : BitVec 1 := Scalar.cmpi .slt v48 c0_i32_89
  let v53 : BitVec 1 := Scalar.xori v51 v52
  let c0_i32_87 : BitVec 32 := 0#32
  let v50 : BitVec 1 := Scalar.cmpi .ne v49 c0_i32_87
  let v54 : BitVec 1 := Scalar.andi v53 v50
  let v55 : BitVec 32 := Scalar.addi v49 v48
  let v56 : BitVec 32 := Scalar.select v54 v55 v49
  let c0_i32_90 : BitVec 32 := 0#32
  let v57 : BitVec 32 := Scalar.maxsi v56 c0_i32_90
  let c2_i32_91 : BitVec 32 := 2#32
  let v58 : BitVec 32 := Scalar.minsi v57 c2_i32_91
  let c0_i32_92 : BitVec 32 := 0#32
  let v59 : BitVec 1 := Scalar.cmpi .ne v58 c0_i32_92
  v59

def k0_cond2 (k0_t3 : Fin k0_t3_loop.trips) : BitVec 1 :=
  let c2_i32_60 : BitVec 32 := 2#32
  let c1_i32_61 : BitVec 32 := 1#32
  let arg20 : BitVec 32 := Scf.iv c2_i32_60 c1_i32_61 k0_t3
  let c3_i32 : BitVec 32 := 3#32
  let c0_i32_85 : BitVec 32 := 0#32
  let v47 : BitVec 1 := Scalar.cmpi .eq c3_i32 c0_i32_85
  let c1_i32_86 : BitVec 32 := 1#32
  let v48 : BitVec 32 := Scalar.select v47 c1_i32_86 c3_i32
  let v49 : BitVec 32 := Scalar.remsi arg20 v48
  let c0_i32_88 : BitVec 32 := 0#32
  let v51 : BitVec 1 := Scalar.cmpi .slt v49 c0_i32_88
  let c0_i32_89 : BitVec 32 := 0#32
  let v52 : BitVec 1 := Scalar.cmpi .slt v48 c0_i32_89
  let v53 : BitVec 1 := Scalar.xori v51 v52
  let c0_i32_87 : BitVec 32 := 0#32
  let v50 : BitVec 1 := Scalar.cmpi .ne v49 c0_i32_87
  let v54 : BitVec 1 := Scalar.andi v53 v50
  let v55 : BitVec 32 := Scalar.addi v49 v48
  let v56 : BitVec 32 := Scalar.select v54 v55 v49
  let c0_i32_90 : BitVec 32 := 0#32
  let v57 : BitVec 32 := Scalar.maxsi v56 c0_i32_90
  let c2_i32_91 : BitVec 32 := 2#32
  let v58 : BitVec 32 := Scalar.minsi v57 c2_i32_91
  let c1_i32_93 : BitVec 32 := 1#32
  let v60 : BitVec 32 := Scalar.subi v58 c1_i32_93
  let c0_i32_94 : BitVec 32 := 0#32
  let v61 : BitVec 1 := Scalar.cmpi .ne v60 c0_i32_94
  v61

def k0_off15 (i : grid0.Coords) (k0_t3 : Fin k0_t3_loop.trips) : Fin 3 → Nat :=
  let c0_i32_105 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_60 : BitVec 32 := 2#32
  let c1_i32_61 : BitVec 32 := 1#32
  let arg20 : BitVec 32 := Scf.iv c2_i32_60 c1_i32_61 k0_t3
  let c1_i32_101 : BitVec 32 := 1#32
  let v64 : BitVec 32 := Scalar.addi arg20 c1_i32_101
  let c32_i32 : BitVec 32 := 32#32
  let v65 : BitVec 1 := Scalar.cmpi .eq v64 c32_i32
  let c0_i32_103 : BitVec 32 := 0#32
  let c1_i32_102 : BitVec 32 := 1#32
  let v66 : BitVec 32 := Scalar.addi arg20 c1_i32_102
  let v67 : BitVec 32 := Scalar.select v65 c0_i32_103 v66
  let c8_i32_104 : BitVec 32 := 8#32
  let v68 : BitVec 32 := Scalar.muli v67 c8_i32_104
  let v69 : BitVec 32 := Scalar.addi v2 v68
  let c0_i32_106 : BitVec 32 := 0#32
  ![0, v69.toNat, 0]
def k0_off16 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_60 : BitVec 32 := 2#32
  let c1_i32_61 : BitVec 32 := 1#32
  let arg20 : BitVec 32 := Scf.iv c2_i32_60 c1_i32_61 k0_t3
  let c1_i32_101 : BitVec 32 := 1#32
  let v64 : BitVec 32 := Scalar.addi arg20 c1_i32_101
  let c32_i32 : BitVec 32 := 32#32
  let v65 : BitVec 1 := Scalar.cmpi .eq v64 c32_i32
  let c0_i32_103 : BitVec 32 := 0#32
  let c1_i32_102 : BitVec 32 := 1#32
  let v66 : BitVec 32 := Scalar.addi arg20 c1_i32_102
  let v67 : BitVec 32 := Scalar.select v65 c0_i32_103 v66
  let c8_i32_104 : BitVec 32 := 8#32
  let v68 : BitVec 32 := Scalar.muli v67 c8_i32_104
  let v69 : BitVec 32 := Scalar.addi v2 v68
  let c0_i32_109 : BitVec 32 := 0#32
  ![v69.toNat, 0]
@[reducible] def k0_t4_loop : Scf.Loop 32 :=
  let c0_i32_121 : BitVec 32 := 0#32
  let c512_i32_122 : BitVec 32 := 512#32
  let v78 : BitVec 32 := Scalar.addi c0_i32_121 c512_i32_122
  let c1_i32_123 : BitVec 32 := 1#32
  ⟨c0_i32_121, v78, c1_i32_123⟩
def k0_off17 (k0_t4 : Fin k0_t4_loop.trips) : Fin 2 → Nat :=
  let c0_i32_121 : BitVec 32 := 0#32
  let c1_i32_123 : BitVec 32 := 1#32
  let arg21 : BitVec 32 := Scf.iv c0_i32_121 c1_i32_123 k0_t4
  let c6_i32 : BitVec 32 := 6#32
  let v83 : BitVec 32 := Scalar.shrsi arg21 c6_i32
  let v86 : Index := Scalar.indexCast v83
  let c63_i32 : BitVec 32 := 63#32
  let v84 : BitVec 32 := Scalar.andi arg21 c63_i32
  let c16_i32 : BitVec 32 := 16#32
  let v85 : BitVec 32 := Scalar.muli v84 c16_i32
  let v87 : Index := Scalar.indexCast v85
  ![v86.toNat, v87.toNat]
def k0_off18 (k0_t4 : Fin k0_t4_loop.trips) : Fin 3 → Nat :=
  let c0_i32_130 : BitVec 32 := 0#32
  let v90 : Index := Scalar.indexCast c0_i32_130
  let c0_i32_121 : BitVec 32 := 0#32
  let c1_i32_123 : BitVec 32 := 1#32
  let arg21 : BitVec 32 := Scf.iv c0_i32_121 c1_i32_123 k0_t4
  let c6_i32 : BitVec 32 := 6#32
  let v83 : BitVec 32 := Scalar.shrsi arg21 c6_i32
  let v91 : Index := Scalar.indexCast v83
  let c63_i32 : BitVec 32 := 63#32
  let v84 : BitVec 32 := Scalar.andi arg21 c63_i32
  let c16_i32 : BitVec 32 := 16#32
  let v85 : BitVec 32 := Scalar.muli v84 c16_i32
  let v92 : Index := Scalar.indexCast v85
  ![0, v91.toNat, v92.toNat]
def k0_off19 (k0_t4 : Fin k0_t4_loop.trips) : Fin 3 → Nat :=
  let c1_i32_132 : BitVec 32 := 1#32
  let v102 : Index := Scalar.indexCast c1_i32_132
  let c0_i32_121 : BitVec 32 := 0#32
  let c1_i32_123 : BitVec 32 := 1#32
  let arg21 : BitVec 32 := Scf.iv c0_i32_121 c1_i32_123 k0_t4
  let c6_i32 : BitVec 32 := 6#32
  let v83 : BitVec 32 := Scalar.shrsi arg21 c6_i32
  let v103 : Index := Scalar.indexCast v83
  let c63_i32 : BitVec 32 := 63#32
  let v84 : BitVec 32 := Scalar.andi arg21 c63_i32
  let c16_i32 : BitVec 32 := 16#32
  let v85 : BitVec 32 := Scalar.muli v84 c16_i32
  let v104 : Index := Scalar.indexCast v85
  ![1, v103.toNat, v104.toNat]
def k0_off20 (k0_t4 : Fin k0_t4_loop.trips) : Fin 3 → Nat :=
  let c2_i32_134 : BitVec 32 := 2#32
  let v114 : Index := Scalar.indexCast c2_i32_134
  let c0_i32_121 : BitVec 32 := 0#32
  let c1_i32_123 : BitVec 32 := 1#32
  let arg21 : BitVec 32 := Scf.iv c0_i32_121 c1_i32_123 k0_t4
  let c6_i32 : BitVec 32 := 6#32
  let v83 : BitVec 32 := Scalar.shrsi arg21 c6_i32
  let v115 : Index := Scalar.indexCast v83
  let c63_i32 : BitVec 32 := 63#32
  let v84 : BitVec 32 := Scalar.andi arg21 c63_i32
  let c16_i32 : BitVec 32 := 16#32
  let v85 : BitVec 32 := Scalar.muli v84 c16_i32
  let v116 : Index := Scalar.indexCast v85
  ![2, v115.toNat, v116.toNat]
def k0_off21 (k0_t4 : Fin k0_t4_loop.trips) : Fin 3 → Nat :=
  let c3_i32_136 : BitVec 32 := 3#32
  let v126 : Index := Scalar.indexCast c3_i32_136
  let c0_i32_121 : BitVec 32 := 0#32
  let c1_i32_123 : BitVec 32 := 1#32
  let arg21 : BitVec 32 := Scf.iv c0_i32_121 c1_i32_123 k0_t4
  let c6_i32 : BitVec 32 := 6#32
  let v83 : BitVec 32 := Scalar.shrsi arg21 c6_i32
  let v127 : Index := Scalar.indexCast v83
  let c63_i32 : BitVec 32 := 63#32
  let v84 : BitVec 32 := Scalar.andi arg21 c63_i32
  let c16_i32 : BitVec 32 := 16#32
  let v85 : BitVec 32 := Scalar.muli v84 c16_i32
  let v128 : Index := Scalar.indexCast v85
  ![3, v127.toNat, v128.toNat]
def k0_off22 (i : grid0.Coords) (k0_t3 : Fin k0_t3_loop.trips) : Fin 3 → Nat :=
  let c0_i32_126 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_60 : BitVec 32 := 2#32
  let c1_i32_61 : BitVec 32 := 1#32
  let arg20 : BitVec 32 := Scf.iv c2_i32_60 c1_i32_61 k0_t3
  let c8_i32_125 : BitVec 32 := 8#32
  let v79 : BitVec 32 := Scalar.muli arg20 c8_i32_125
  let v80 : BitVec 32 := Scalar.addi v2 v79
  let c0_i32_127 : BitVec 32 := 0#32
  ![0, v80.toNat, 0]
def k0_off23 (i : grid0.Coords) (k0_t3 : Fin k0_t3_loop.trips) : Fin 3 → Nat :=
  let c0_i32_105 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_60 : BitVec 32 := 2#32
  let c1_i32_61 : BitVec 32 := 1#32
  let arg20 : BitVec 32 := Scf.iv c2_i32_60 c1_i32_61 k0_t3
  let c1_i32_101 : BitVec 32 := 1#32
  let v64 : BitVec 32 := Scalar.addi arg20 c1_i32_101
  let c32_i32 : BitVec 32 := 32#32
  let v65 : BitVec 1 := Scalar.cmpi .eq v64 c32_i32
  let c0_i32_103 : BitVec 32 := 0#32
  let c1_i32_102 : BitVec 32 := 1#32
  let v66 : BitVec 32 := Scalar.addi arg20 c1_i32_102
  let v67 : BitVec 32 := Scalar.select v65 c0_i32_103 v66
  let c8_i32_104 : BitVec 32 := 8#32
  let v68 : BitVec 32 := Scalar.muli v67 c8_i32_104
  let v69 : BitVec 32 := Scalar.addi v2 v68
  let c0_i32_106 : BitVec 32 := 0#32
  ![0, v69.toNat, 0]
def k0_off24 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_60 : BitVec 32 := 2#32
  let c1_i32_61 : BitVec 32 := 1#32
  let arg20 : BitVec 32 := Scf.iv c2_i32_60 c1_i32_61 k0_t3
  let c1_i32_101 : BitVec 32 := 1#32
  let v64 : BitVec 32 := Scalar.addi arg20 c1_i32_101
  let c32_i32 : BitVec 32 := 32#32
  let v65 : BitVec 1 := Scalar.cmpi .eq v64 c32_i32
  let c0_i32_103 : BitVec 32 := 0#32
  let c1_i32_102 : BitVec 32 := 1#32
  let v66 : BitVec 32 := Scalar.addi arg20 c1_i32_102
  let v67 : BitVec 32 := Scalar.select v65 c0_i32_103 v66
  let c8_i32_104 : BitVec 32 := 8#32
  let v68 : BitVec 32 := Scalar.muli v67 c8_i32_104
  let v69 : BitVec 32 := Scalar.addi v2 v68
  let c0_i32_109 : BitVec 32 := 0#32
  ![v69.toNat, 0]
@[reducible] def k0_t5_loop : Scf.Loop 32 :=
  let c0_i32_121 : BitVec 32 := 0#32
  let c512_i32_122 : BitVec 32 := 512#32
  let v78 : BitVec 32 := Scalar.addi c0_i32_121 c512_i32_122
  let c1_i32_123 : BitVec 32 := 1#32
  ⟨c0_i32_121, v78, c1_i32_123⟩
def k0_off25 (k0_t5 : Fin k0_t5_loop.trips) : Fin 2 → Nat :=
  let c0_i32_121 : BitVec 32 := 0#32
  let c1_i32_123 : BitVec 32 := 1#32
  let arg21 : BitVec 32 := Scf.iv c0_i32_121 c1_i32_123 k0_t5
  let c6_i32 : BitVec 32 := 6#32
  let v83 : BitVec 32 := Scalar.shrsi arg21 c6_i32
  let v86 : Index := Scalar.indexCast v83
  let c63_i32 : BitVec 32 := 63#32
  let v84 : BitVec 32 := Scalar.andi arg21 c63_i32
  let c16_i32 : BitVec 32 := 16#32
  let v85 : BitVec 32 := Scalar.muli v84 c16_i32
  let v87 : Index := Scalar.indexCast v85
  ![v86.toNat, v87.toNat]
def k0_off26 (k0_t5 : Fin k0_t5_loop.trips) : Fin 3 → Nat :=
  let c0_i32_130 : BitVec 32 := 0#32
  let v90 : Index := Scalar.indexCast c0_i32_130
  let c0_i32_121 : BitVec 32 := 0#32
  let c1_i32_123 : BitVec 32 := 1#32
  let arg21 : BitVec 32 := Scf.iv c0_i32_121 c1_i32_123 k0_t5
  let c6_i32 : BitVec 32 := 6#32
  let v83 : BitVec 32 := Scalar.shrsi arg21 c6_i32
  let v91 : Index := Scalar.indexCast v83
  let c63_i32 : BitVec 32 := 63#32
  let v84 : BitVec 32 := Scalar.andi arg21 c63_i32
  let c16_i32 : BitVec 32 := 16#32
  let v85 : BitVec 32 := Scalar.muli v84 c16_i32
  let v92 : Index := Scalar.indexCast v85
  ![0, v91.toNat, v92.toNat]
def k0_off27 (k0_t5 : Fin k0_t5_loop.trips) : Fin 3 → Nat :=
  let c1_i32_132 : BitVec 32 := 1#32
  let v102 : Index := Scalar.indexCast c1_i32_132
  let c0_i32_121 : BitVec 32 := 0#32
  let c1_i32_123 : BitVec 32 := 1#32
  let arg21 : BitVec 32 := Scf.iv c0_i32_121 c1_i32_123 k0_t5
  let c6_i32 : BitVec 32 := 6#32
  let v83 : BitVec 32 := Scalar.shrsi arg21 c6_i32
  let v103 : Index := Scalar.indexCast v83
  let c63_i32 : BitVec 32 := 63#32
  let v84 : BitVec 32 := Scalar.andi arg21 c63_i32
  let c16_i32 : BitVec 32 := 16#32
  let v85 : BitVec 32 := Scalar.muli v84 c16_i32
  let v104 : Index := Scalar.indexCast v85
  ![1, v103.toNat, v104.toNat]
def k0_off28 (k0_t5 : Fin k0_t5_loop.trips) : Fin 3 → Nat :=
  let c2_i32_134 : BitVec 32 := 2#32
  let v114 : Index := Scalar.indexCast c2_i32_134
  let c0_i32_121 : BitVec 32 := 0#32
  let c1_i32_123 : BitVec 32 := 1#32
  let arg21 : BitVec 32 := Scf.iv c0_i32_121 c1_i32_123 k0_t5
  let c6_i32 : BitVec 32 := 6#32
  let v83 : BitVec 32 := Scalar.shrsi arg21 c6_i32
  let v115 : Index := Scalar.indexCast v83
  let c63_i32 : BitVec 32 := 63#32
  let v84 : BitVec 32 := Scalar.andi arg21 c63_i32
  let c16_i32 : BitVec 32 := 16#32
  let v85 : BitVec 32 := Scalar.muli v84 c16_i32
  let v116 : Index := Scalar.indexCast v85
  ![2, v115.toNat, v116.toNat]
def k0_off29 (k0_t5 : Fin k0_t5_loop.trips) : Fin 3 → Nat :=
  let c3_i32_136 : BitVec 32 := 3#32
  let v126 : Index := Scalar.indexCast c3_i32_136
  let c0_i32_121 : BitVec 32 := 0#32
  let c1_i32_123 : BitVec 32 := 1#32
  let arg21 : BitVec 32 := Scf.iv c0_i32_121 c1_i32_123 k0_t5
  let c6_i32 : BitVec 32 := 6#32
  let v83 : BitVec 32 := Scalar.shrsi arg21 c6_i32
  let v127 : Index := Scalar.indexCast v83
  let c63_i32 : BitVec 32 := 63#32
  let v84 : BitVec 32 := Scalar.andi arg21 c63_i32
  let c16_i32 : BitVec 32 := 16#32
  let v85 : BitVec 32 := Scalar.muli v84 c16_i32
  let v128 : Index := Scalar.indexCast v85
  ![3, v127.toNat, v128.toNat]
def k0_off30 (i : grid0.Coords) (k0_t3 : Fin k0_t3_loop.trips) : Fin 3 → Nat :=
  let c0_i32_126 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_60 : BitVec 32 := 2#32
  let c1_i32_61 : BitVec 32 := 1#32
  let arg20 : BitVec 32 := Scf.iv c2_i32_60 c1_i32_61 k0_t3
  let c8_i32_125 : BitVec 32 := 8#32
  let v79 : BitVec 32 := Scalar.muli arg20 c8_i32_125
  let v80 : BitVec 32 := Scalar.addi v2 v79
  let c0_i32_127 : BitVec 32 := 0#32
  ![0, v80.toNat, 0]
def k0_off31 (i : grid0.Coords) (k0_t3 : Fin k0_t3_loop.trips) : Fin 3 → Nat :=
  let c0_i32_103 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_60 : BitVec 32 := 2#32
  let c1_i32_61 : BitVec 32 := 1#32
  let arg20 : BitVec 32 := Scf.iv c2_i32_60 c1_i32_61 k0_t3
  let c1_i32_99 : BitVec 32 := 1#32
  let v62 : BitVec 32 := Scalar.addi arg20 c1_i32_99
  let c32_i32 : BitVec 32 := 32#32
  let v63 : BitVec 1 := Scalar.cmpi .eq v62 c32_i32
  let c0_i32_101 : BitVec 32 := 0#32
  let c1_i32_100 : BitVec 32 := 1#32
  let v64 : BitVec 32 := Scalar.addi arg20 c1_i32_100
  let v65 : BitVec 32 := Scalar.select v63 c0_i32_101 v64
  let c8_i32_102 : BitVec 32 := 8#32
  let v66 : BitVec 32 := Scalar.muli v65 c8_i32_102
  let v67 : BitVec 32 := Scalar.addi v2 v66
  let c0_i32_104 : BitVec 32 := 0#32
  ![0, v67.toNat, 0]
def k0_off32 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_60 : BitVec 32 := 2#32
  let c1_i32_61 : BitVec 32 := 1#32
  let arg20 : BitVec 32 := Scf.iv c2_i32_60 c1_i32_61 k0_t3
  let c1_i32_99 : BitVec 32 := 1#32
  let v62 : BitVec 32 := Scalar.addi arg20 c1_i32_99
  let c32_i32 : BitVec 32 := 32#32
  let v63 : BitVec 1 := Scalar.cmpi .eq v62 c32_i32
  let c0_i32_101 : BitVec 32 := 0#32
  let c1_i32_100 : BitVec 32 := 1#32
  let v64 : BitVec 32 := Scalar.addi arg20 c1_i32_100
  let v65 : BitVec 32 := Scalar.select v63 c0_i32_101 v64
  let c8_i32_102 : BitVec 32 := 8#32
  let v66 : BitVec 32 := Scalar.muli v65 c8_i32_102
  let v67 : BitVec 32 := Scalar.addi v2 v66
  let c0_i32_107 : BitVec 32 := 0#32
  ![v67.toNat, 0]
@[reducible] def k0_t6_loop : Scf.Loop 32 :=
  let c0_i32_119 : BitVec 32 := 0#32
  let c512_i32_120 : BitVec 32 := 512#32
  let v76 : BitVec 32 := Scalar.addi c0_i32_119 c512_i32_120
  let c1_i32_121 : BitVec 32 := 1#32
  ⟨c0_i32_119, v76, c1_i32_121⟩
def k0_off33 (k0_t6 : Fin k0_t6_loop.trips) : Fin 2 → Nat :=
  let c0_i32_119 : BitVec 32 := 0#32
  let c1_i32_121 : BitVec 32 := 1#32
  let arg21 : BitVec 32 := Scf.iv c0_i32_119 c1_i32_121 k0_t6
  let c6_i32 : BitVec 32 := 6#32
  let v81 : BitVec 32 := Scalar.shrsi arg21 c6_i32
  let v84 : Index := Scalar.indexCast v81
  let c63_i32 : BitVec 32 := 63#32
  let v82 : BitVec 32 := Scalar.andi arg21 c63_i32
  let c16_i32 : BitVec 32 := 16#32
  let v83 : BitVec 32 := Scalar.muli v82 c16_i32
  let v85 : Index := Scalar.indexCast v83
  ![v84.toNat, v85.toNat]
def k0_off34 (k0_t6 : Fin k0_t6_loop.trips) : Fin 3 → Nat :=
  let c0_i32_128 : BitVec 32 := 0#32
  let v88 : Index := Scalar.indexCast c0_i32_128
  let c0_i32_119 : BitVec 32 := 0#32
  let c1_i32_121 : BitVec 32 := 1#32
  let arg21 : BitVec 32 := Scf.iv c0_i32_119 c1_i32_121 k0_t6
  let c6_i32 : BitVec 32 := 6#32
  let v81 : BitVec 32 := Scalar.shrsi arg21 c6_i32
  let v89 : Index := Scalar.indexCast v81
  let c63_i32 : BitVec 32 := 63#32
  let v82 : BitVec 32 := Scalar.andi arg21 c63_i32
  let c16_i32 : BitVec 32 := 16#32
  let v83 : BitVec 32 := Scalar.muli v82 c16_i32
  let v90 : Index := Scalar.indexCast v83
  ![0, v89.toNat, v90.toNat]
def k0_off35 (k0_t6 : Fin k0_t6_loop.trips) : Fin 3 → Nat :=
  let c1_i32_130 : BitVec 32 := 1#32
  let v100 : Index := Scalar.indexCast c1_i32_130
  let c0_i32_119 : BitVec 32 := 0#32
  let c1_i32_121 : BitVec 32 := 1#32
  let arg21 : BitVec 32 := Scf.iv c0_i32_119 c1_i32_121 k0_t6
  let c6_i32 : BitVec 32 := 6#32
  let v81 : BitVec 32 := Scalar.shrsi arg21 c6_i32
  let v101 : Index := Scalar.indexCast v81
  let c63_i32 : BitVec 32 := 63#32
  let v82 : BitVec 32 := Scalar.andi arg21 c63_i32
  let c16_i32 : BitVec 32 := 16#32
  let v83 : BitVec 32 := Scalar.muli v82 c16_i32
  let v102 : Index := Scalar.indexCast v83
  ![1, v101.toNat, v102.toNat]
def k0_off36 (k0_t6 : Fin k0_t6_loop.trips) : Fin 3 → Nat :=
  let c2_i32_132 : BitVec 32 := 2#32
  let v112 : Index := Scalar.indexCast c2_i32_132
  let c0_i32_119 : BitVec 32 := 0#32
  let c1_i32_121 : BitVec 32 := 1#32
  let arg21 : BitVec 32 := Scf.iv c0_i32_119 c1_i32_121 k0_t6
  let c6_i32 : BitVec 32 := 6#32
  let v81 : BitVec 32 := Scalar.shrsi arg21 c6_i32
  let v113 : Index := Scalar.indexCast v81
  let c63_i32 : BitVec 32 := 63#32
  let v82 : BitVec 32 := Scalar.andi arg21 c63_i32
  let c16_i32 : BitVec 32 := 16#32
  let v83 : BitVec 32 := Scalar.muli v82 c16_i32
  let v114 : Index := Scalar.indexCast v83
  ![2, v113.toNat, v114.toNat]
def k0_off37 (k0_t6 : Fin k0_t6_loop.trips) : Fin 3 → Nat :=
  let c3_i32_134 : BitVec 32 := 3#32
  let v124 : Index := Scalar.indexCast c3_i32_134
  let c0_i32_119 : BitVec 32 := 0#32
  let c1_i32_121 : BitVec 32 := 1#32
  let arg21 : BitVec 32 := Scf.iv c0_i32_119 c1_i32_121 k0_t6
  let c6_i32 : BitVec 32 := 6#32
  let v81 : BitVec 32 := Scalar.shrsi arg21 c6_i32
  let v125 : Index := Scalar.indexCast v81
  let c63_i32 : BitVec 32 := 63#32
  let v82 : BitVec 32 := Scalar.andi arg21 c63_i32
  let c16_i32 : BitVec 32 := 16#32
  let v83 : BitVec 32 := Scalar.muli v82 c16_i32
  let v126 : Index := Scalar.indexCast v83
  ![3, v125.toNat, v126.toNat]
def k0_off38 (i : grid0.Coords) (k0_t3 : Fin k0_t3_loop.trips) : Fin 3 → Nat :=
  let c0_i32_124 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_60 : BitVec 32 := 2#32
  let c1_i32_61 : BitVec 32 := 1#32
  let arg20 : BitVec 32 := Scf.iv c2_i32_60 c1_i32_61 k0_t3
  let c8_i32_123 : BitVec 32 := 8#32
  let v77 : BitVec 32 := Scalar.muli arg20 c8_i32_123
  let v78 : BitVec 32 := Scalar.addi v2 v77
  let c0_i32_125 : BitVec 32 := 0#32
  ![0, v78.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x8192x1024 : Shape := ⟨3, ![4, 8192, 1024]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x1024 : Shape := ⟨3, ![1, 8192, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S8192x1, .i32⟩
  | .hbm, ⟨20, _⟩ => ⟨S1, .i32⟩
  | .hbm, ⟨21, _⟩ => ⟨S_, .i32⟩
  | .hbm, ⟨22, _⟩ => ⟨S8192x1, .i32⟩
  | .hbm, ⟨23, _⟩ => ⟨S8192x1, .i1⟩
  | .hbm, ⟨24, _⟩ => ⟨S1x1, .i32⟩
  | .hbm, ⟨25, _⟩ => ⟨S8192x1, .i32⟩
  | .hbm, ⟨26, _⟩ => ⟨S8192x1, .i1⟩
  | .hbm, ⟨27, _⟩ => ⟨S8192x1, .i1⟩
  | .hbm, ⟨28, _⟩ => ⟨S_, .i1⟩
  | .hbm, ⟨29, _⟩ => ⟨S8192, .i1⟩
  | .hbm, ⟨30, _⟩ => ⟨S8192x1024, .f32⟩
  | .hbm, ⟨31, _⟩ => ⟨S8192x1024, .i1⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S1x8192x1024, .f32⟩
  | .hbm, ⟨36, _⟩ => ⟨S4x8192x1024, .f32⟩
  | .hbm, ⟨37, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩

abbrev nD : Nat := 1
abbrev τ : Topo := Topo.v7x

variable {F : FTy → Type} [FloatOps F]
-- ==== Proof.Setup.lean ====
/-
  What every module of this proof shares: the kernel as the SparseCore launch theorem sees it, the resource algebra its
  program logic runs over, and the names of the three arrays the call works on (`x`, the position table `pos`, the result).
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ShareLeaves
public import Idealize.ShloMosaic.Lib.ValueLayout
public import proofs.«01_k».proof.Defs
public import proofs.«01_k».proof.Proof.Gen.KernelIdeal
public import proofs.«01_k».proof.Proof.Gen.KernelIdeal.Skeleton

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs sixteen tasks on each of its SparseCores, on two SparseCores. -/
theorem nSub_zero : (K (F := F)).nSub 0 = 16 := rfl
theorem nCore_zero : (K (F := F)).nCore 0 = 2 := rfl

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev xLoc (d : Dev nD) : Loc nD τ sig := (SparseCore.T d).loc main_arg0
abbrev pLoc (d : Dev nD) : Loc nD τ sig := (SparseCore.T d).loc main_arg1
abbrev oLoc (d : Dev nD) : Loc nD τ sig := (SparseCore.T d).loc main_v0

/-- A program of vector subcore `(cc, ww)`. -/
abbrev TProg (F : FTy → Type) (cc : Fin τ.nSC) (ww : Fin τ.nSub) (α : Type) : Type 1 :=
  Prog (TpuEff nD τ sig (Elt F) Λ₀ (.scVector cc ww)) α

/-- The weakest precondition of a program of vector subcore `(cc, ww)` of device `d`. -/
abbrev WP [FloatOps F] (d : Dev nD) (cc : Fin τ.nSC) (ww : Fin τ.nSub) {α : Type} (p : TProg F cc ww α)
    (Q : α → sProp 𝕄) : sProp 𝕄 :=
  wp frame (wpE (defs₀ (F := F)) 𝒱₀ (V d cc ww) none) Set.univ p Q

end Cert.Proof.Sc

end
-- ==== Proof.AddLoop.lean ====
/-
  The loop that adds the position rows to a chunk of `x` in place. A chunk is four batches of eight rows of 1024 numbers; its
  position block is eight rows of 1024. Trip `k` of 512 takes the sixteen lanes starting at `16 · (k % 64)` of row
  `k / 64`: it reads them once from the position block and adds them to the same lanes of each of the four batches.
-/
module

public import proofs.«01_k».proof.Proof.Setup

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-! ## The values -/

/-- The entry of the position block that belongs to entry `y` of the chunk. -/
abbrev posOf (y : S4x8x1024.Idx) : S8x1024.Idx := ix2 (y 1) (y 2)

/-- The chunk with the trips before `k` done, and of trip `k` the batches before `b`. -/
def partSum (X : S4x8x1024.Idx → Elt F .f32) (P : S8x1024.Idx → Elt F .f32) (k b : ℕ) : S4x8x1024.Idx → Elt F .f32 :=
  fun y => if 64 * (y 1).val + (y 2).val / 16 < k ∨ (64 * (y 1).val + (y 2).val / 16 = k ∧ (y 0).val < b) then
    FloatOps.addf (X y) (P (posOf y)) else X y

/-- The chunk with its position block added throughout. -/
def sum (X : S4x8x1024.Idx → Elt F .f32) (P : S8x1024.Idx → Elt F .f32) : S4x8x1024.Idx → Elt F .f32 :=
  fun y => FloatOps.addf (X y) (P (posOf y))

/-- Before the first trip nothing has been added. -/
theorem partSum_zero (X : S4x8x1024.Idx → Elt F .f32) (P : S8x1024.Idx → Elt F .f32) : partSum X P 0 0 = X := by
  funext y; unfold partSum; rw [if_neg (by omega)]

/-- A trip with its four batches done is the next trip not begun. -/
theorem partSum_four (X : S4x8x1024.Idx → Elt F .f32) (P : S8x1024.Idx → Elt F .f32) (k : ℕ) :
    partSum X P k 4 = partSum X P (k + 1) 0 := by
  funext y; unfold partSum
  have h0 : (y 0).val < 4 := (y 0).isLt
  exact if_congr (by omega) rfl rfl

/-- After the last trip everything has been added. -/
theorem partSum_last (X : S4x8x1024.Idx → Elt F .f32) (P : S8x1024.Idx → Elt F .f32) : partSum X P 512 0 = sum X P := by
  funext y; unfold partSum sum
  have h1 : (y 1).val < 8 := (y 1).isLt
  have h2 : (y 2).val < 1024 := (y 2).isLt
  rw [if_pos (by omega)]

/-! ## What a buffer of a vector subcore reads -/

/-- A buffer of vector subcore `(cc, ww)` of device `d` is held, and reads `X` through the memref. -/
def Holds (d : Dev nD) (cc : Fin τ.nSC) (ww : Fin τ.nSub) {s : Shape} (r : Memref sig .scVector .vmem s .f32) (X : s.Idx → Elt F .f32) : sProp 𝕄 :=
  iprop(∃ f, (r.view.loc (V d cc ww) ↦{fullShare} f) ∗ ⌜r.view.read (Elt F) f = X⌝)

theorem Holds_elim (d : Dev nD) (cc : Fin τ.nSC) (ww : Fin τ.nSub) {s : Shape} (r : Memref sig .scVector .vmem s .f32) (X : s.Idx → Elt F .f32) :
    Holds d cc ww r X ⊢ (iprop(∃ f, (r.view.loc (V d cc ww) ↦{fullShare} f) ∗ ⌜r.view.read (Elt F) f = X⌝) : sProp 𝕄) := .rfl

theorem Holds_intro (d : Dev nD) (cc : Fin τ.nSC) (ww : Fin τ.nSub) {s : Shape} (r : Memref sig .scVector .vmem s .f32) (X : s.Idx → Elt F .f32)
    (f : Buf (Elt F) (r.view.loc (V d cc ww))) (h : r.view.read (Elt F) f = X) :
    (r.view.loc (V d cc ww) ↦{fullShare} f) ⊢ (Holds d cc ww r X : sProp 𝕄) := by
  unfold Holds
  iintro H
  iexists f
  isplitl [H]; · iexact H
  ipureintro; exact h

/-! ## One trip -/

section Trip

variable {cc : Fin τ.nSC} {ww : Fin τ.nSub}

/-- Read sixteen lanes of the chunk, add `v` to them, write them back. -/
def addAt (cc : Fin τ.nSC) (ww : Fin τ.nSub) (xr : Memref sig .scVector .vmem S4x8x1024 .f32) (o : Fin 3 → ℕ)
    (ho : ∀ a, o a + S1x1x16.size a ≤ S4x8x1024.size a) (v : FVec F S16 .f32) : TProg F cc ww PUnit := do
  let u : Vec F S1x1x16 .f32 ← Prog.lift (.load xr (Rect.unit (s := S4x8x1024) o S1x1x16.size ho).toLoadRect (View.loadsAt_vmem h_S1x1x16))
  let _ : Vec F S1x1x16 .f32 ← Prog.lift (.load xr (Rect.unit (s := S4x8x1024) o S1x1x16.size ho).toLoadRect (View.loadsAt_vmem h_S1x1x16))
  Prog.lift (.store xr (Rect.unit (s := S4x8x1024) o S1x1x16.size ho)
    (shapeCast S1x1x16 (addf (shapeCast S16 u shapeCasts_S1x1x16_S16) v) shapeCasts_S16_S1x1x16)
    Finset.univ (View.stores_vmem_bits_univ h_S1x1x16 rfl) (.inl rfl))

/-- One trip: sixteen lanes of a row of the position block, added to each batch. -/
def addTrip (cc : Fin τ.nSC) (ww : Fin τ.nSub) (xr : Memref sig .scVector .vmem S4x8x1024 .f32) (pr : Memref sig .scVector .vmem S8x1024 .f32)
    (op : Fin 2 → ℕ) (hop : ∀ a, op a + S1x16.size a ≤ S8x1024.size a) (o : Fin 4 → Fin 3 → ℕ)
    (ho : ∀ b a, o b a + S1x1x16.size a ≤ S4x8x1024.size a) : TProg F cc ww PUnit := do
  let v : Vec F S1x16 .f32 ← Prog.lift (.load pr (Rect.unit (s := S8x1024) op S1x16.size hop).toLoadRect (View.loadsAt_vmem h_S1x16))
  addAt cc ww xr (o 0) (ho 0) (shapeCast S16 v shapeCasts_S1x16_S16)
  addAt cc ww xr (o 1) (ho 1) (shapeCast S16 v shapeCasts_S1x16_S16)
  addAt cc ww xr (o 2) (ho 2) (shapeCast S16 v shapeCasts_S1x16_S16)
  addAt cc ww xr (o 3) (ho 3) (shapeCast S16 v shapeCasts_S1x16_S16)

end Trip

/-- A vector of sixteen lanes recast to one row of one batch keeps its lanes. -/
theorem cast_up {α : Type} (v : S16.Idx → α) (j : S1x1x16.Idx) : shapeCast S1x1x16 v shapeCasts_S16_S1x1x16 j = v (ix1 (j 2)) := by
  refine shapeCast_apply v _ j (ix1 (j 2)) ?_
  rw [Shape.rowMajor_val_one, Shape.rowMajor_val_three]
  have h0 : (j 0).val < 1 := (j 0).isLt
  have h1 : (j 1).val < 1 := (j 1).isLt
  show (j 2).val = ((j 0).val * 1 + (j 1).val) * 16 + (j 2).val
  omega

/-- One row of one batch recast to a vector of sixteen lanes keeps its lanes. -/
theorem cast_down {α : Type} (v : S1x1x16.Idx → α) (j : S16.Idx) : shapeCast S16 v shapeCasts_S1x1x16_S16 j = v (ix3 0 0 (j 0)) := by
  refine shapeCast_apply v _ j (ix3 0 0 (j 0)) ?_
  rw [Shape.rowMajor_val_one, Shape.rowMajor_val_three]
  show ((0 * 1 + 0) * 16 + (j 0).val) = (j 0).val
  omega

/-- One row recast to a vector of sixteen lanes keeps its lanes. -/
theorem cast_row {α : Type} (v : S1x16.Idx → α) (j : S16.Idx) : shapeCast S16 v shapeCasts_S1x16_S16 j = v (ix2 0 (j 0)) := by
  refine shapeCast_apply v _ j (ix2 0 (j 0)) ?_
  rw [Shape.rowMajor_val_one, Shape.rowMajor_val_two]
  show (0 * 16 + (j 0).val) = (j 0).val
  omega

/-- Where lane `j` of the sixteen at offsets `o` lies in the chunk. -/
theorem emb_val (o : Fin 3 → ℕ) (ho : ∀ a, o a + S1x1x16.size a ≤ S4x8x1024.size a) (j : S1x1x16.Idx) (a : Fin 3) :
    ((Rect.unit (s := S4x8x1024) o S1x1x16.size ho).emb j a).val = o a + (j a).val := by
  show o a + 1 * (j a).val = _
  omega

/-- THE VALUE OF ONE BATCH OF ONE TRIP. If the chunk reads `partSum X P k b`, and the lanes at batch `b`, row `k / 64` from
    `16 · (k % 64)` are rewritten with what was there plus the position entries of those lanes, then it reads `partSum X P k (b + 1)`. -/
theorem read_addAt (xr : Memref sig .scVector .vmem S4x8x1024 .f32) (X : S4x8x1024.Idx → Elt F .f32) (P : S8x1024.Idx → Elt F .f32)
    (k b : ℕ) (o : Fin 3 → ℕ) (ho : ∀ a, o a + S1x1x16.size a ≤ S4x8x1024.size a) (hoe : o = ![b, k / 64, 16 * (k % 64)])
    (f : xr.view.ty.Contents (Elt F)) (hf : xr.view.read (Elt F) f = partSum X P k b)
    (v : FVec F S16 .f32) (hv : ∀ (y : S4x8x1024.Idx) (j : Fin 16), (y 1).val = k / 64 → (y 2).val = 16 * (k % 64) + j.val → v (ix1 j) = P (posOf y)) :
    xr.view.read (Elt F) ((xr.view.slice (Rect.unit (s := S4x8x1024) o S1x1x16.size ho)).write (Elt F) f
      (shapeCast S1x1x16 (addf (shapeCast S16 (xr.view.readAt (Elt F) (Rect.unit (s := S4x8x1024) o S1x1x16.size ho).toLoadRect f) shapeCasts_S1x1x16_S16) v) shapeCasts_S16_S1x1x16)
      Finset.univ) = partSum X P k (b + 1) := by
  subst hoe
  set r := Rect.unit (s := S4x8x1024) ![b, k / 64, 16 * (k % 64)] S1x1x16.size ho with hr
  have e (j : S1x1x16.Idx) : (r.emb j 0).val = b ∧ (r.emb j 1).val = k / 64 ∧ (r.emb j 2).val = 16 * (k % 64) + (j 2).val := by
    have h0 : (j 0).val < 1 := (j 0).isLt
    have h1 : (j 1).val < 1 := (j 1).isLt
    refine ⟨?_, ?_, emb_val _ ho j 2⟩
    · have := emb_val _ ho j 0; simp only [Matrix.cons_val_zero] at this; rw [this]; omega
    · have := emb_val _ ho j 1; simp only [Matrix.cons_val_one, Matrix.cons_val_zero] at this; rw [this]; omega
  funext y
  by_cases hy : y ∈ (Finset.univ : Finset r.shape.Idx).map r.emb
  · obtain ⟨j, -, rfl⟩ := Finset.mem_map.mp hy
    obtain ⟨e0, e1, e2⟩ := e j
    have hj2 : (j 2).val < 16 := (j 2).isLt
    rw [View.read_slice_write_emb _ _ _ (Finset.mem_univ j), cast_up]
    show FloatOps.addf (shapeCast S16 _ shapeCasts_S1x1x16_S16 (ix1 (j 2))) (v (ix1 (j 2))) = _
    have hj : (ix3 0 0 (j 2) : S1x1x16.Idx) = j := by
      funext a
      match a with
      | 0 => exact Fin.ext (by have h : (j 0).val < 1 := (j 0).isLt; show 0 = (j 0).val; omega)
      | 1 => exact Fin.ext (by have h : (j 1).val < 1 := (j 1).isLt; show 0 = (j 1).val; omega)
      | 2 => rfl
    rw [cast_down, hv (r.emb j) (j 2) e1 e2, show (ix1 (j 2) : S16.Idx) 0 = j 2 from rfl, hj, View.readAt_apply,
      show r.toLoadRect.idx j = r.emb j from rfl, hf]
    unfold partSum
    rw [e0, e1, e2, if_neg (by omega), if_pos (by omega)]
  · rw [View.read_slice_write_of_not_mem _ _ _ _ hy, hf]
    unfold partSum
    have hne : ¬ (64 * (y 1).val + (y 2).val / 16 = k ∧ (y 0).val = b) := fun ⟨h1, h0⟩ => hy (Finset.mem_map.mpr
      ⟨ix3 0 0 ⟨(y 2).val % 16, Nat.mod_lt _ (by omega)⟩, Finset.mem_univ _, by
        have hy2 : (y 2).val < 1024 := (y 2).isLt
        obtain ⟨e0, e1, e2⟩ := e (ix3 0 0 ⟨(y 2).val % 16, Nat.mod_lt _ (by omega)⟩)
        funext a
        match a with
        | 0 => exact Fin.ext (by rw [e0]; omega)
        | 1 => exact Fin.ext (by rw [e1]; omega)
        | 2 => exact Fin.ext (by rw [e2]; show 16 * (k % 64) + (y 2).val % 16 = (y 2).val; omega)⟩)
    exact if_congr (by omega) rfl rfl

/-! ## One trip, run -/

section Run

variable (d : Dev nD) (cc : Fin τ.nSC) (ww : Fin τ.nSub)

/-- One batch of one trip takes the chunk from `partSum X P k b` to `partSum X P k (b + 1)`. -/
theorem wp_addAt {α : Type} (xr : Memref sig .scVector .vmem S4x8x1024 .f32) (X : S4x8x1024.Idx → Elt F .f32) (P : S8x1024.Idx → Elt F .f32)
    (k b : ℕ) (o : Fin 3 → ℕ) (ho : ∀ a, o a + S1x1x16.size a ≤ S4x8x1024.size a) (hoe : o = ![b, k / 64, 16 * (k % 64)])
    (v : FVec F S16 .f32) (hv : ∀ (y : S4x8x1024.Idx) (j : Fin 16), (y 1).val = k / 64 → (y 2).val = 16 * (k % 64) + j.val → v (ix1 j) = P (posOf y))
    (kk : PUnit → TProg F cc ww α) (Q : α → sProp 𝕄) :
    Holds d cc ww xr (partSum X P k b)
      ⊢ iprop((Holds d cc ww xr (partSum X P k (b + 1)) -∗ WP d cc ww (kk ⟨⟩) Q)
        -∗ WP d cc ww (addAt cc ww xr o ho v >>= kk) Q) := by
  unfold Holds addAt
  iintro ⟨%f, Hf, %hf⟩ Hk
  iapply (wp_load 𝒱₀ (V d cc ww) none Set.univ (Finset.subset_univ _)) $$ Hf
  iintro Hf
  iapply (wp_load 𝒱₀ (V d cc ww) none Set.univ (Finset.subset_univ _)) $$ Hf
  iintro Hf
  iapply (wp_store 𝒱₀ (V d cc ww) none Set.univ (m := xr) (r := Rect.unit (s := S4x8x1024) o S1x1x16.size ho) (f := f) (Finset.subset_univ _)) $$ Hf
  iintro Hf
  iapply Hk
  iexists _
  isplitl [Hf]; · iexact Hf
  ipureintro
  exact read_addAt xr X P k b o ho hoe f hf v hv

/-- What trip `k`'s position load brings, lane by lane: the entries of row `k / 64` from `16 · (k % 64)`. -/
theorem lane_pos (pr : Memref sig .scVector .vmem S8x1024 .f32) (P : S8x1024.Idx → Elt F .f32) (k : ℕ) (op : Fin 2 → ℕ)
    (hop : ∀ a, op a + S1x16.size a ≤ S8x1024.size a) (hope : op = ![k / 64, 16 * (k % 64)])
    (g : pr.view.ty.Contents (Elt F)) (hg : pr.view.read (Elt F) g = P) (y : S4x8x1024.Idx) (j : Fin 16)
    (h1 : (y 1).val = k / 64) (h2 : (y 2).val = 16 * (k % 64) + j.val) :
    shapeCast S16 (pr.view.readAt (Elt F) (Rect.unit (s := S8x1024) op S1x16.size hop).toLoadRect g) shapeCasts_S1x16_S16 (ix1 j) = P (posOf y) := by
  subst hope
  rw [cast_row, View.readAt_apply, hg]
  refine congrArg P (funext fun a => ?_)
  match a with
  | 0 => exact Fin.ext (by show k / 64 + 1 * 0 = (y 1).val; omega)
  | 1 => exact Fin.ext (by show 16 * (k % 64) + 1 * j.val = (y 2).val; omega)

/-- One trip takes the chunk from `k` trips done to `k + 1`, and keeps the position block. -/
theorem wp_addTrip (xr : Memref sig .scVector .vmem S4x8x1024 .f32) (pr : Memref sig .scVector .vmem S8x1024 .f32)
    (X : S4x8x1024.Idx → Elt F .f32) (P : S8x1024.Idx → Elt F .f32) (k : ℕ) (op : Fin 2 → ℕ) (hop : ∀ a, op a + S1x16.size a ≤ S8x1024.size a)
    (o : Fin 4 → Fin 3 → ℕ) (ho : ∀ b a, o b a + S1x1x16.size a ≤ S4x8x1024.size a)
    (hope : op = ![k / 64, 16 * (k % 64)]) (hoe : ∀ b, o b = ![b.val, k / 64, 16 * (k % 64)]) :
    iprop(Holds d cc ww xr (partSum X P k 0) ∗ Holds d cc ww pr P)
      ⊢ WP d cc ww (addTrip cc ww xr pr op hop o ho) fun _ => iprop(Holds d cc ww xr (partSum X P (k + 1) 0) ∗ Holds d cc ww pr P) := by
  unfold addTrip
  iintro ⟨Hx, Hp⟩
  ihave Hp' := (Holds_elim d cc ww pr P) $$ Hp
  icases Hp' with ⟨%g, Hp, %hg⟩
  iapply (wp_load 𝒱₀ (V d cc ww) none Set.univ (m := pr) (Finset.subset_univ _)) $$ Hp
  iintro Hp
  have hv := fun y j h1 h2 => lane_pos pr P k op hop hope g hg y j h1 h2
  iapply (wp_addAt d cc ww xr X P k 0 (o 0) (ho 0) (hoe 0) _ hv) $$ Hx
  iintro Hx
  iapply (wp_addAt d cc ww xr X P k 1 (o 1) (ho 1) (hoe 1) _ hv) $$ Hx
  iintro Hx
  iapply (wp_addAt d cc ww xr X P k 2 (o 2) (ho 2) (hoe 2) _ hv) $$ Hx
  iintro Hx
  rw [← bind_pure (addAt cc ww xr (o 3) (ho 3) _)]
  iapply (wp_addAt d cc ww xr X P k 3 (o 3) (ho 3) (hoe 3) _ hv) $$ Hx
  iintro Hx
  simp only [wp_pure]
  imodintro
  isplitl [Hx]
  · rw [← partSum_four]; iexact Hx
  · iapply (Holds_intro d cc ww pr P g hg); iexact Hp

/-- THE LOOP. A loop of 512 trips, each the trip above at its own lanes, adds the position block to the chunk. -/
theorem wp_addLoop {α : Type} (l : Scf.Loop 32) (hok : l.OK) (hl : l.trips = 512) (body : Fin l.trips → Unit → TProg F cc ww Unit)
    (xr : Memref sig .scVector .vmem S4x8x1024 .f32) (pr : Memref sig .scVector .vmem S8x1024 .f32)
    (op : Fin l.trips → Fin 2 → ℕ) (hop : ∀ k a, op k a + S1x16.size a ≤ S8x1024.size a)
    (o : Fin l.trips → Fin 4 → Fin 3 → ℕ) (ho : ∀ k b a, o k b a + S1x1x16.size a ≤ S4x8x1024.size a)
    (hope : ∀ k, op k = ![k.val / 64, 16 * (k.val % 64)]) (hoe : ∀ k b, o k b = ![b.val, k.val / 64, 16 * (k.val % 64)])
    (hb : ∀ k u, body k u = addTrip cc ww xr pr (op k) (hop k) (o k) (ho k))
    (X : S4x8x1024.Idx → Elt F .f32) (P : S8x1024.Idx → Elt F .f32) (kk : Unit → TProg F cc ww α) (Q : α → sProp 𝕄) :
    iprop(Holds d cc ww xr X ∗ Holds d cc ww pr P)
      ⊢ iprop((iprop(Holds d cc ww xr (sum X P) ∗ Holds d cc ww pr P) -∗ WP d cc ww (kk ⟨⟩) Q)
        -∗ WP d cc ww (Scf.Loop.for l hok ⟨⟩ body >>= kk) Q) := by
  have h := Scf.wp_for_bind frame (wpE (defs₀ (F := F)) 𝒱₀ (V d cc ww) none) Set.univ l.lb l.ub l.st hok (⟨⟩ : Unit) body
    (fun k _ => iprop(Holds d cc ww xr (partSum X P k 0) ∗ Holds d cc ww pr P))
    (fun k u => by
      rw [hb k u]
      exact wp_addTrip d cc ww xr pr X P k.val (op k) (hop k) (o k) (ho k) (hope k) (hoe k)) (kk := kk) (Q := Q)
  rw [partSum_zero, show Scf.trips l.lb l.ub l.st = 512 from hl, partSum_last] at h
  refine h.trans (wand_mono_left ?_)
  iintro Hk %u H
  iapply Hk; iexact H

end Run

end Cert.Proof.Sc

end
-- ==== Proof.Chunks.lean ====
/-
  The chunks. The arrays are cut along the sequence axis into 1024 chunks of eight rows: of `x` and of the result a chunk is
  those rows in each of the four batches, of the position table it is the rows themselves. Task (core `c`, subcore `s`) works on
  the 32 chunks from `64 · s + 32 · c`.
-/
module

public import proofs.«01_k».proof.Proof.AddLoop

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-- The three arrays as a vector subcore addresses them. -/
abbrev xV : Memref sig .scVector .hbm S4x8192x1024 .f32 := Memref.whole main_arg0_scv
abbrev pV : Memref sig .scVector .hbm S8192x1024 .f32 := Memref.whole main_arg1_scv
abbrev oV : Memref sig .scVector .hbm S4x8192x1024 .f32 := Memref.whole main_v0_scv

/-- Row `r` of chunk `n` in the array. -/
def rowAt (n : Fin 1024) (r : Fin 8) : Fin 8192 := ⟨8 * n.val + r.val, by omega⟩

/-- Chunk `n` of `x` (or of the result). -/
def chunkX (X : S4x8192x1024.Idx → Elt F .f32) (n : Fin 1024) : S4x8x1024.Idx → Elt F .f32 :=
  fun y => X (ix3 (y 0) (rowAt n (y 1)) (y 2))

/-- Chunk `n` of the position table. -/
def chunkP (P : S8192x1024.Idx → Elt F .f32) (n : Fin 1024) : S8x1024.Idx → Elt F .f32 :=
  fun y => P (ix2 (rowAt n (y 0)) (y 1))

/-- THE RESULT: `x` with the position table added to each batch. -/
def out [FloatOps F] (X : S4x8192x1024.Idx → Elt F .f32) (P : S8192x1024.Idx → Elt F .f32) : S4x8192x1024.Idx → Elt F .f32 :=
  fun y => FloatOps.addf (X y) (P (ix2 (y 1) (y 2)))

/-- A chunk of the result is the chunk of `x` with its position block added. -/
theorem chunk_out [FloatOps F] (X : S4x8192x1024.Idx → Elt F .f32) (P : S8192x1024.Idx → Elt F .f32) (n : Fin 1024) :
    chunkX (out X P) n = sum (chunkX X n) (chunkP P n) := rfl

/-! ## The windows the transfers address -/

/-- The window of `x`, or of the result, at offsets `o`; -/
abbrev xWin (r : Memref sig .scVector .hbm S4x8192x1024 .f32) (o : Fin 3 → ℕ) (ho : ∀ a, o a + S4x8x1024.size a ≤ S4x8192x1024.size a) :
    Memref sig .scVector .hbm S4x8x1024 .f32 := r.slice (Rect.unit (s := S4x8192x1024) o S4x8x1024.size ho) (fun _ => rfl)
/-- of the position table. -/
abbrev pWin (o : Fin 2 → ℕ) (ho : ∀ a, o a + S8x1024.size a ≤ S8192x1024.size a) :
    Memref sig .scVector .hbm S8x1024 .f32 := pV.slice (Rect.unit (s := S8192x1024) o S8x1024.size ho) (fun _ => rfl)

/-- At the offsets of chunk `n` an entry of the window is that entry of the chunk. -/
theorem xWin_emb (o : Fin 3 → ℕ) (ho : ∀ a, o a + S4x8x1024.size a ≤ S4x8192x1024.size a) (n : Fin 1024) (hoe : o = ![0, 8 * n.val, 0])
    (y : S4x8x1024.Idx) : (Rect.unit (s := S4x8192x1024) o S4x8x1024.size ho).emb y = ix3 (y 0) (rowAt n (y 1)) (y 2) := by
  subst hoe
  funext a
  match a with
  | 0 => exact Fin.ext (by show 0 + 1 * (y 0).val = (y 0).val; omega)
  | 1 => exact Fin.ext (by show 8 * n.val + 1 * (y 1).val = 8 * n.val + (y 1).val; omega)
  | 2 => exact Fin.ext (by show 0 + 1 * (y 2).val = (y 2).val; omega)

/-- At the offsets of chunk `n` the window of `x` reads the chunk. -/
theorem read_xWin (o : Fin 3 → ℕ) (ho : ∀ a, o a + S4x8x1024.size a ≤ S4x8192x1024.size a) (n : Fin 1024) (hoe : o = ![0, 8 * n.val, 0])
    (f : S4x8192x1024.Idx → Elt F .f32) : (xWin xV o ho).view.read (Elt F) f = chunkX f n := by
  funext y
  rw [View.read_apply]
  exact (cast_eq _ _).trans (congrArg f (xWin_emb o ho n hoe y))

/-- At the offsets of chunk `n` the window of the position table reads the chunk. -/
theorem read_pWin (o : Fin 2 → ℕ) (ho : ∀ a, o a + S8x1024.size a ≤ S8192x1024.size a) (n : Fin 1024) (hoe : o = ![8 * n.val, 0])
    (f : S8192x1024.Idx → Elt F .f32) : (pWin o ho).view.read (Elt F) f = chunkP f n := by
  subst hoe
  funext y
  rw [View.read_apply]
  refine (cast_eq _ _).trans (congrArg f (funext fun a => ?_))
  match a with
  | 0 => exact Fin.ext (by show 8 * n.val + 1 * (y 0).val = 8 * n.val + (y 0).val; omega)
  | 1 => exact Fin.ext (by show 0 + 1 * (y 1).val = (y 1).val; omega)

/-! ## The chunks of the result's array -/

theorem rows_div : 1024 ∣ S4x8192x1024.size 1 := ⟨8, rfl⟩

/-- The elements of chunk `n`. -/
def chunkSet (n : Fin 1024) : Finset S4x8192x1024.Idx := (Rect.part (s := S4x8192x1024) (a₀ := 1) rows_div n).set

/-- The window at the offsets of chunk `n` has the elements of the chunk. -/
theorem set_xWin (o : Fin 3 → ℕ) (ho : ∀ a, o a + S4x8x1024.size a ≤ S4x8192x1024.size a) (n : Fin 1024) (hoe : o = ![0, 8 * n.val, 0]) :
    (xWin oV o ho).view.set = chunkSet n := by
  have e : Rect.unit (s := S4x8192x1024) o S4x8x1024.size ho = Rect.part (s := S4x8192x1024) (a₀ := 1) rows_div n := by
    unfold Rect.part Rect.block
    congr 1 <;> funext a
    · rw [hoe]
      match a with
      | 0 => simp [Shape.partIx, Shape.partSize]
      | 1 => simp [Shape.partIx, Shape.partSize, Nat.mul_comm]
      | 2 => simp [Shape.partIx, Shape.partSize]
    · match a with
      | 0 => simp [Shape.partSize]
      | 1 => simp [Shape.partSize]
      | 2 => simp [Shape.partSize]
  show ((View.whole (main_v0_scv : Ref sig .scVector)).slice (Rect.unit (s := S4x8192x1024) o S4x8x1024.size ho)).set = _
  rw [View.set_slice_whole]
  rw [e]; rfl

/-- Written whole with values that are chunk `n` of `f`, the window's elements hold `f`. -/
theorem write_xWin (o : Fin 3 → ℕ) (ho : ∀ a, o a + S4x8x1024.size a ≤ S4x8192x1024.size a) (n : Fin 1024) (hoe : o = ![0, 8 * n.val, 0])
    (f g : S4x8192x1024.Idx → Elt F .f32) (w : S4x8x1024.Idx → Elt F .f32) (hw : w = chunkX f n) :
    ∀ i ∈ (xWin oV o ho).view.set, (xWin oV o ho).view.write (Elt F) g w Finset.univ i = f i := by
  intro i hi
  obtain ⟨y, -, rfl⟩ := Finset.mem_map.mp hi
  rw [View.write_emb_of_mem _ _ (Finset.mem_univ y)]
  refine (cast_eq _ _).trans ?_
  rw [hw]
  exact congrArg f (xWin_emb o ho n hoe y).symm

/-- The chunk's share of the result's array, at contents `f`. -/
def oChunk (d : Dev nD) (n : Fin 1024) (f : Buf (Elt F) (oLoc d)) : sProp 𝕄 := oLoc d ↦[chunkSet n]{fullShare} f

/-- The result's array is its chunks. -/
theorem oPts_chunks (d : Dev nD) (f : Buf (Elt F) (oLoc d)) :
    (oLoc d ↦{fullShare} f : sProp 𝕄) = bigSep Finset.univ fun n : Fin 1024 => oChunk d n f := by
  unfold oChunk
  rw [← pointsTo_biUnion Finset.univ (ℓ := oLoc d) chunkSet fun i _ j _ h => Rect.part_disjoint rows_div h,
    show (Finset.univ : Finset (Fin 1024)).biUnion chunkSet = Finset.univ from Rect.biUnion_part rows_div]

end Cert.Proof.Sc

end
-- ==== Proof.Slots.lean ====
/-
  One of the three slots a task rotates through: a buffer for a chunk of `x`, a buffer for its position block, and three
  semaphores (chunk in, block in, chunk out). What a task holds of a slot is one of: IDLE; LOADING a chunk (both copies in under
  way); LOADED is the two buffers reading the chunk; STORING a chunk of the result (the copy out under way). Here are the rules of
  the operations that move a slot from one to the next, for any slot, any chunk and any offsets that are the chunk's.
-/
module

public import proofs.«01_k».proof.Proof.Chunks

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight Flight_mono MayWaits)

variable {F : FTy → Type}

local notation "𝕄" => MT nD τ sig (HIx 1) (Elt F) ℕ UU ℕ

/-- A transfer under way on a cell of vector subcore `(cc, ww)`, handing `D` over at its wait. -/
abbrev Fly (d : Dev nD) (cc : Fin τ.nSC) (ww : Fin τ.nSub) (sm : DmaSem sig) (N : ℕ) (D : sProp 𝕄) : sProp 𝕄 :=
  Flight countersEmb (V d cc ww) (.dma sm) (none : HIx 1) N D

/-- What is held besides a transfer may be handed over with what it delivers. -/
theorem Fly_frame (d : Dev nD) (cc : Fin τ.nSC) (ww : Fin τ.nSub) (sm : DmaSem sig) (N : ℕ) (D R : sProp 𝕄) :
    iprop(Fly d cc ww sm N D ∗ R) ⊢ Fly d cc ww sm N iprop(D ∗ R) := by
  unfold Fly Flight
  iintro ⟨⟨⟨%R₀, HR₀, %hlow, %hpeek⟩, Hc⟩, HR⟩
  isplitl [HR₀ HR]
  · iexists iprop(R₀ ∗ R)
    isplitl [HR₀ HR]; · isplitl [HR₀] <;> iassumption
    isplit
    · ipureintro
      intro Q
      refine BIBase.Entails.trans ?_ (hlow Q)
      iintro ⟨⟨HR₀, HR⟩, HQ⟩
      isplitl [HR₀]; · iexact HR₀
      iintro ⟨Hv, HD⟩
      iapply HQ
      isplitl [Hv]; · iexact Hv
      isplitl [HD] <;> iassumption
    · ipureintro
      intro Q
      refine BIBase.Entails.trans ?_ (hpeek Q)
      iintro ⟨⟨HR₀, HR⟩, HQ⟩
      isplitl [HR₀]; · iexact HR₀
      iintro HR₀
      iapply HQ
      isplitl [HR₀] <;> iassumption
  · iexact Hc

/-- The cell of semaphore `sm` at zero. -/
abbrev Zero (d : Dev nD) (cc : Fin τ.nSC) (ww : Fin τ.nSub) (sm : DmaSem sig) : sProp 𝕄 := semVal (V d cc ww, .dma sm) 0

/-- A buffer held, whatever it reads. -/
def Own (d : Dev nD) (cc : Fin τ.nSC) (ww : Fin τ.nSub) {s : Shape} (r : Memref sig .scVector .vmem s .f32) : sProp 𝕄 :=
  iprop(∃ f : Buf (Elt F) (r.view.loc (V d cc ww)), r.view.loc (V d cc ww) ↦{fullShare} f)

/-- What a task owes the handshakes, with the waits it has recorded beyond `W` all its own. -/
def Owed (d : Dev nD) (cc : Fin τ.nSC) (ww : Fin τ.nSub) (O : CellTallies nD τ sig (HIx 1)) (W : Waits sig (HIx 1)) : sProp 𝕄 :=
  iprop(∃ W', ⌜∀ p ∈ W', p ∈ W ∨ p.2 = none⌝ ∗ owes (V d cc ww) O W')

/-- The credit of a copy out: that of a window of the result's array. -/
abbrev outN : ℕ := (xWin oV ![0, 0, 0] (by decide)).view.dmaCredit

variable [FloatOps F]

section Ops

variable (d : Dev nD) (cc : Fin τ.nSC) (ww : Fin τ.nSub) {α : Type}

/-- START A COPY IN: from a buffer held, a share of the array and the cell at zero, the copy's flight, which hands over the
    buffer reading what the window reads, and the share. -/
theorem wp_copyIn {s : Shape} (src : Memref sig .scVector .hbm s .f32) (dst : Memref sig .scVector .vmem s .f32) (sm : DmaSem sig)
    (hs : 0 < s.numel) (q : PosShare TreeShare) (f : Buf (Elt F) (src.view.loc (V d cc ww)))
    {h1 : src.view.WordExact} {h2 : (DmaTarget.here (nD := nD) (τ := τ) (p := .scVector cc ww) dst).view.WordExact}
    {h3 : (DmaTarget.here (nD := nD) (τ := τ) (p := .scVector cc ww) dst).Typed .hbm (.dma sm)}
    (kk : PUnit → TProg F cc ww α) (Q : α → sProp 𝕄) :
    iprop(Own d cc ww dst ∗ (src.view.loc (V d cc ww) ↦{q} f) ∗ Zero d cc ww sm)
      ⊢ iprop((Fly d cc ww sm dst.view.dmaCredit iprop(Holds d cc ww dst (src.view.read (Elt F) f) ∗ (src.view.loc (V d cc ww) ↦{q} f))
          -∗ WP d cc ww (kk ⟨⟩) Q)
        -∗ WP d cc ww (.op (.enqueueDma src (.here dst) (.dma sm) h1 h2 h3) kk) Q) := by
  unfold Own
  iintro ⟨⟨%g, Hd⟩, Hs, Hv⟩ Hk
  ihave Hs' := (pointsTo_split_subset (q := q) (f := f) (S := Finset.univ) (Finset.subset_univ src.view.set)).1 $$ Hs
  icases Hs' with ⟨Hs, Hr⟩
  iapply (Transfers.wp_dmaLocal countersEmb 𝒱₀ (V d cc ww) none (none : HIx 1) dst.view.dmaCredit (View.amount_dma _ _)
    (View.dmaCredit_pos _ hs) (Finset.subset_univ _)) $$ [Hd Hs Hv]
  · isplitl [Hs]; · iexact Hs
    isplitl [Hd] <;> iassumption
  iintro Hfl
  iapply Hk
  ihave Hfl' := (Fly_frame d cc ww sm _ _ _) $$ [Hfl Hr]
  · isplitl [Hfl]; · iexact Hfl
    iexact Hr
  iapply (Flight_mono countersEmb (V d cc ww)) $$ Hfl'
  iintro ⟨⟨Hd, Hs⟩, Hr⟩
  isplitl [Hd]
  · iapply (Holds_intro d cc ww dst _ _ (View.read_write_univ _ _)) $$ Hd
  · iapply (pointsTo_split_subset (q := q) (f := f) (S := Finset.univ) (Finset.subset_univ src.view.set)).2
    isplitl [Hs] <;> iassumption

/-- START A COPY OUT: from a buffer that reads chunk `n` of `f`, the result's chunk `n` and the cell at zero, the copy's flight, which
    hands over the buffer and the result's chunk at `f`. -/
theorem wp_copyOut (src : Memref sig .scVector .vmem S4x8x1024 .f32) (sm : DmaSem sig) (o : Fin 3 → ℕ)
    (ho : ∀ a, o a + S4x8x1024.size a ≤ S4x8192x1024.size a) (n : Fin 1024) (hoe : o = ![0, 8 * n.val, 0]) (f g : Buf (Elt F) (oLoc d))
    {h1 : src.view.WordExact} {h2 : (DmaTarget.here (nD := nD) (τ := τ) (p := .scVector cc ww) (xWin oV o ho)).view.WordExact}
    {h3 : (DmaTarget.here (nD := nD) (τ := τ) (p := .scVector cc ww) (xWin oV o ho)).Typed .vmem (.dma sm)}
    (kk : PUnit → TProg F cc ww α) (Q : α → sProp 𝕄) :
    iprop(Holds d cc ww src (chunkX f n) ∗ oChunk d n g ∗ Zero d cc ww sm)
      ⊢ iprop((Fly d cc ww sm outN iprop(Own d cc ww src ∗ oChunk d n f) -∗ WP d cc ww (kk ⟨⟩) Q)
        -∗ WP d cc ww (.op (.enqueueDma src (.here (xWin oV o ho)) (.dma sm) h1 h2 h3) kk) Q) := by
  unfold oChunk
  rw [← set_xWin o ho n hoe]
  iintro ⟨Hx, Ho, Hv⟩ Hk
  ihave Hx' := (Holds_elim d cc ww src _) $$ Hx
  icases Hx' with ⟨%u, Hs, %hu⟩
  ihave Hs' := (pointsTo_split_subset (q := fullShare) (f := u) (S := Finset.univ) (Finset.subset_univ src.view.set)).1 $$ Hs
  icases Hs' with ⟨Hs, Hr⟩
  iapply (Transfers.wp_dmaLocal countersEmb 𝒱₀ (V d cc ww) none (fd := g) (none : HIx 1) outN rfl
    (View.dmaCredit_pos _ (by decide)) (Finset.Subset.refl _)) $$ [Ho Hs Hv]
  · isplitl [Hs]; · iexact Hs
    isplitl [Ho]; · iexact Ho
    iexact Hv
  iintro Hfl
  iapply Hk
  ihave Hfl' := (Fly_frame d cc ww sm _ _ _) $$ [Hfl Hr]
  · isplitl [Hfl]; · iexact Hfl
    iexact Hr
  iapply (Flight_mono countersEmb (V d cc ww)) $$ Hfl'
  iintro ⟨⟨Ho, Hs⟩, Hr⟩
  isplitl [Hs Hr]
  · unfold Own
    iexists u
    iapply (pointsTo_split_subset (q := fullShare) (f := u) (S := Finset.univ) (Finset.subset_univ src.view.set)).2
    isplitl [Hs] <;> iassumption
  · iapply (Entails.of_eq (pointsTo_congr (write_xWin o ho n hoe f g _ hu))) $$ Ho

/-- WAIT for a copy under way: what it delivers, and the cell back at zero. -/
theorem wp_wait {s s' : Shape} {sp sp' : Space} (sm : DmaSem sig) (srcw : Memref sig .scVector sp' s' .f32) (dstw : Memref sig .scVector sp s .f32)
    (N : ℕ) (hN : dstw.view.dmaCredit = N) (R : sProp 𝕄) (O : CellTallies nD τ sig (HIx 1)) (W : Waits sig (HIx 1))
    {h1 : srcw.view.WordExact} {h2 : dstw.view.WordExact} (kk : PUnit → TProg F cc ww α) (Q : α → sProp 𝕄) :
    iprop(MayWaits (V d cc ww) (none : HIx 1) O ∗ Fly d cc ww sm N R ∗ Owed d cc ww O W)
      ⊢ iprop((iprop(R ∗ Zero d cc ww sm ∗ Owed d cc ww O W) -∗ WP d cc ww (kk ⟨⟩) Q)
        -∗ WP d cc ww (.op (.waitDma2 sm srcw dstw h1 h2) kk) Q) := by
  unfold Owed
  iintro ⟨#Hmw, Hfl, ⟨%W', %hW, HO⟩⟩ Hk
  iapply (Transfers.wp_waitLocalO countersEmb 𝒱₀ (V d cc ww) none (none : HIx 1) hN) $$ [Hfl HO]
  · isplitl [Hfl]; · iexact Hfl
    isplitl [HO]; · iexact HO
    iapply (Transfers.MayWaits.elim (SemLoc.dma sm)) $$ Hmw
  iintro ⟨HR, Hv, HO⟩
  iapply Hk
  isplitl [HR]; · iexact HR
  isplitl [Hv]; · iexact Hv
  iexists _
  isplitr
  swap
  · iexact HO
  ipureintro
  intro p hp
  rcases Finset.mem_insert.mp hp with hp | hp
  · exact .inr (hp ▸ rfl)
  · exact hW p hp

end Ops

/-! ## The slots -/

/-- A slot: its two buffers, its three semaphores, and the share of `x` and of the position table its copies read through. -/
structure Slot where
  xr : Memref sig .scVector .vmem S4x8x1024 .f32
  pr : Memref sig .scVector .vmem S8x1024 .f32
  sx : DmaSem sig
  sp : DmaSem sig
  so : DmaSem sig
  q : PosShare TreeShare

section States

variable (d : Dev nD) (cc : Fin τ.nSC) (ww : Fin τ.nSub) (mx : Buf (Elt F) (xLoc d)) (mp : Buf (Elt F) (pLoc d))

/-- The slot's shares of the two operands. -/
def Shares (S : Slot) : sProp 𝕄 := iprop((xLoc d ↦{S.q} mx) ∗ (pLoc d ↦{S.q} mp))

/-- No copy under way on the slot. -/
def Idle (S : Slot) : sProp 𝕄 :=
  iprop(Own d cc ww S.xr ∗ Own d cc ww S.pr ∗ Shares d mx mp S ∗ Zero d cc ww S.sx ∗ Zero d cc ww S.sp ∗ Zero d cc ww S.so)

/-- No copy under way on the slot, and its buffers read `X` and `P`. -/
def Full (S : Slot) (X : S4x8x1024.Idx → Elt F .f32) (P : S8x1024.Idx → Elt F .f32) : sProp 𝕄 :=
  iprop(Holds d cc ww S.xr X ∗ Holds d cc ww S.pr P ∗ Shares d mx mp S ∗ Zero d cc ww S.sx ∗ Zero d cc ww S.sp ∗ Zero d cc ww S.so)

/-- Chunk `n` of `x` and its position block are on their way into the slot. -/
def Loading (S : Slot) (n : Fin 1024) : sProp 𝕄 :=
  iprop(Fly d cc ww S.sx S.xr.view.dmaCredit iprop(Holds d cc ww S.xr (chunkX mx n) ∗ (xLoc d ↦{S.q} mx))
    ∗ Fly d cc ww S.sp S.pr.view.dmaCredit iprop(Holds d cc ww S.pr (chunkP mp n) ∗ (pLoc d ↦{S.q} mp)) ∗ Zero d cc ww S.so)

/-- Chunk `n` of the result is on its way out of the slot. -/
def Storing (S : Slot) (n : Fin 1024) : sProp 𝕄 :=
  iprop(Fly d cc ww S.so outN iprop(Own d cc ww S.xr ∗ oChunk d n (out mx mp)) ∗ Own d cc ww S.pr ∗ Shares d mx mp S
    ∗ Zero d cc ww S.sx ∗ Zero d cc ww S.sp)

variable {α : Type}

/-- Idle to loading: start the two copies in. -/
theorem wp_start (S : Slot) (n : Fin 1024) (o : Fin 3 → ℕ) (ho : ∀ a, o a + S4x8x1024.size a ≤ S4x8192x1024.size a) (hoe : o = ![0, 8 * n.val, 0])
    (o' : Fin 2 → ℕ) (ho' : ∀ a, o' a + S8x1024.size a ≤ S8192x1024.size a) (hoe' : o' = ![8 * n.val, 0])
    {h1 : (xWin xV o ho).view.WordExact} {h2 : (DmaTarget.here (nD := nD) (τ := τ) (p := .scVector cc ww) S.xr).view.WordExact}
    {h3 : (DmaTarget.here (nD := nD) (τ := τ) (p := .scVector cc ww) S.xr).Typed .hbm (.dma S.sx)}
    {h1' : (pWin o' ho').view.WordExact} {h2' : (DmaTarget.here (nD := nD) (τ := τ) (p := .scVector cc ww) S.pr).view.WordExact}
    {h3' : (DmaTarget.here (nD := nD) (τ := τ) (p := .scVector cc ww) S.pr).Typed .hbm (.dma S.sp)}
    (kk : PUnit → TProg F cc ww α) (Q : α → sProp 𝕄) :
    Idle d cc ww mx mp S
      ⊢ iprop((Loading d cc ww mx mp S n -∗ WP d cc ww (kk ⟨⟩) Q)
        -∗ WP d cc ww (.op (.enqueueDma (xWin xV o ho) (.here S.xr) (.dma S.sx) h1 h2 h3)
            fun _ => .op (.enqueueDma (pWin o' ho') (.here S.pr) (.dma S.sp) h1' h2' h3') kk) Q) := by
  unfold Idle Shares Loading
  iintro ⟨Hx, Hp, ⟨Hmx, Hmp⟩, Hsx, Hsp, Hso⟩ Hk
  iapply (wp_copyIn d cc ww (xWin xV o ho) S.xr S.sx (by decide) S.q mx) $$ [Hx Hmx Hsx]
  · isplitl [Hx]; · iexact Hx
    isplitl [Hmx]; · iexact Hmx
    iexact Hsx
  rw [read_xWin o ho n hoe]
  iintro Hfx
  iapply (wp_copyIn d cc ww (pWin o' ho') S.pr S.sp (by decide) S.q mp) $$ [Hp Hmp Hsp]
  · isplitl [Hp]; · iexact Hp
    isplitl [Hmp]; · iexact Hmp
    iexact Hsp
  rw [read_pWin o' ho' n hoe']
  iintro Hfp
  iapply Hk
  isplitl [Hfx]; · iexact Hfx
  isplitl [Hfp]; · iexact Hfp
  iexact Hso

/-- Loading to loaded: wait for the two copies in. -/
theorem wp_arrive (S : Slot) (n : Fin 1024) (O : CellTallies nD τ sig (HIx 1)) (W : Waits sig (HIx 1)) {s s' : Shape} {sp sp' : Space}
    (srcw : Memref sig .scVector sp s .f32) (srcw' : Memref sig .scVector sp' s' .f32)
    {h1 : srcw.view.WordExact} {h2 : S.xr.view.WordExact} {h1' : srcw'.view.WordExact} {h2' : S.pr.view.WordExact}
    (kk : PUnit → TProg F cc ww α) (Q : α → sProp 𝕄) :
    iprop(MayWaits (V d cc ww) (none : HIx 1) O ∗ Loading d cc ww mx mp S n ∗ Owed d cc ww O W)
      ⊢ iprop((iprop(Full d cc ww mx mp S (chunkX mx n) (chunkP mp n) ∗ Owed d cc ww O W) -∗ WP d cc ww (kk ⟨⟩) Q)
        -∗ WP d cc ww (.op (.waitDma2 S.sx srcw S.xr h1 h2) fun _ => .op (.waitDma2 S.sp srcw' S.pr h1' h2') kk) Q) := by
  unfold Loading Full Shares
  iintro ⟨#Hmw, ⟨Hfx, Hfp, Hso⟩, HO⟩ Hk
  iapply (wp_wait d cc ww S.sx srcw S.xr _ rfl _ O W) $$ [Hfx HO]
  · isplitr; · iexact Hmw
    isplitl [Hfx]; · iexact Hfx
    iexact HO
  iintro ⟨⟨Hx, Hmx⟩, Hsx, HO⟩
  iapply (wp_wait d cc ww S.sp srcw' S.pr _ rfl _ O W) $$ [Hfp HO]
  · isplitr; · iexact Hmw
    isplitl [Hfp]; · iexact Hfp
    iexact HO
  iintro ⟨⟨Hp, Hmp⟩, Hsp, HO⟩
  iapply Hk
  isplitr [HO]
  · isplitl [Hx]; · iexact Hx
    isplitl [Hp]; · iexact Hp
    isplitl [Hmx Hmp]
    · isplitl [Hmx]; · iexact Hmx
      iexact Hmp
    isplitl [Hsx]; · iexact Hsx
    isplitl [Hsp]; · iexact Hsp
    iexact Hso
  · iexact HO

/-- Loaded, with the sums made, to storing: start the copy out. -/
theorem wp_send (S : Slot) (n : Fin 1024) (g : Buf (Elt F) (oLoc d)) (o : Fin 3 → ℕ)
    (ho : ∀ a, o a + S4x8x1024.size a ≤ S4x8192x1024.size a) (hoe : o = ![0, 8 * n.val, 0])
    {h1 : S.xr.view.WordExact} {h2 : (DmaTarget.here (nD := nD) (τ := τ) (p := .scVector cc ww) (xWin oV o ho)).view.WordExact}
    {h3 : (DmaTarget.here (nD := nD) (τ := τ) (p := .scVector cc ww) (xWin oV o ho)).Typed .vmem (.dma S.so)}
    (kk : PUnit → TProg F cc ww α) (Q : α → sProp 𝕄) :
    iprop(Full d cc ww mx mp S (sum (chunkX mx n) (chunkP mp n)) (chunkP mp n) ∗ oChunk d n g)
      ⊢ iprop((Storing d cc ww mx mp S n -∗ WP d cc ww (kk ⟨⟩) Q)
        -∗ WP d cc ww (.op (.enqueueDma S.xr (.here (xWin oV o ho)) (.dma S.so) h1 h2 h3) kk) Q) := by
  rw [← chunk_out]
  unfold Full Storing
  iintro ⟨⟨Hx, Hp, Hs, Hsx, Hsp, Hso⟩, Ho⟩ Hk
  iapply (wp_copyOut d cc ww S.xr S.so o ho n hoe (out mx mp) g) $$ [Hx Ho Hso]
  · isplitl [Hx]; · iexact Hx
    isplitl [Ho]; · iexact Ho
    iexact Hso
  iintro Hf
  iapply Hk
  isplitl [Hf]; · iexact Hf
  isplitl [Hp]
  · ihave Hp' := (Holds_elim d cc ww S.pr _) $$ Hp
    icases Hp' with ⟨%g, Hp, -⟩
    unfold Own
    iexists g; iexact Hp
  isplitl [Hs]; · iexact Hs
  isplitl [Hsx]; · iexact Hsx
  iexact Hsp

/-- Storing to idle: wait for the copy out, and the result's chunk is there. -/
theorem wp_drain (S : Slot) (n : Fin 1024) (O : CellTallies nD τ sig (HIx 1)) (W : Waits sig (HIx 1)) {s : Shape} {sp : Space}
    (srcw : Memref sig .scVector sp s .f32) (o : Fin 3 → ℕ) (ho : ∀ a, o a + S4x8x1024.size a ≤ S4x8192x1024.size a)
    {h1 : srcw.view.WordExact} {h2 : (xWin oV o ho).view.WordExact} (kk : PUnit → TProg F cc ww α) (Q : α → sProp 𝕄) :
    iprop(MayWaits (V d cc ww) (none : HIx 1) O ∗ Storing d cc ww mx mp S n ∗ Owed d cc ww O W)
      ⊢ iprop((iprop(Idle d cc ww mx mp S ∗ oChunk d n (out mx mp) ∗ Owed d cc ww O W) -∗ WP d cc ww (kk ⟨⟩) Q)
        -∗ WP d cc ww (.op (.waitDma2 S.so srcw (xWin oV o ho) h1 h2) kk) Q) := by
  unfold Storing Idle
  iintro ⟨#Hmw, ⟨Hf, Hp, Hs, Hsx, Hsp⟩, HO⟩ Hk
  iapply (wp_wait d cc ww S.so srcw (xWin oV o ho) outN rfl _ O W) $$ [Hf HO]
  · isplitr; · iexact Hmw
    isplitl [Hf]; · iexact Hf
    iexact HO
  iintro ⟨⟨Hx, Ho⟩, Hso, HO⟩
  iapply Hk
  isplitr [HO Ho]
  · isplitl [Hx]; · iexact Hx
    isplitl [Hp]; · iexact Hp
    isplitl [Hs]; · iexact Hs
    isplitl [Hsx]; · iexact Hsx
    isplitl [Hsp]; · iexact Hsp
    iexact Hso
  isplitl [Ho]; · iexact Ho
  iexact HO

end States

end Cert.Proof.Sc

end
-- ==== Proof.Loops.lean ====
/-
  The kernel's five adding loops — two before the main loop, and one in each branch of the main loop's switch — are the loop of
  Proof/AddLoop.lean, each at its own slot's buffers.
-/
module

public import proofs.«01_k».proof.Proof.Slots

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (MayWaits)

variable {F : FTy → Type} [FloatOps F]

local notation "𝕄" => MT nD τ sig (HIx 1) (Elt F) ℕ UU ℕ

/-- The program adds the position block `pr` reads to the chunk `xr` reads. -/
def Adds (d : Dev nD) (cc : Fin τ.nSC) (ww : Fin τ.nSub) (p : TProg F cc ww Unit) (xr : Memref sig .scVector .vmem S4x8x1024 .f32)
    (pr : Memref sig .scVector .vmem S8x1024 .f32) : Prop :=
  ∀ (α : Type) (X : S4x8x1024.Idx → Elt F .f32) (P : S8x1024.Idx → Elt F .f32) (kk : Unit → TProg F cc ww α) (Q : α → sProp 𝕄),
    iprop(Holds d cc ww xr X ∗ Holds d cc ww pr P)
      ⊢ iprop((iprop(Holds d cc ww xr (sum X P) ∗ Holds d cc ww pr P) -∗ WP d cc ww (kk ⟨⟩) Q) -∗ WP d cc ww (p >>= kk) Q)

/-! ## The lanes each trip addresses -/

theorem lanes1 : ∀ k : Fin k0_t1_loop.trips, k0_off5 k = ![k.val / 64, 16 * (k.val % 64)]
    ∧ ∀ b, (![k0_off6 k, k0_off7 k, k0_off8 k, k0_off9 k] : Fin 4 → Fin 3 → ℕ) b = ![b.val, k.val / 64, 16 * (k.val % 64)] := by decide +kernel
theorem lanes2 : ∀ k : Fin k0_t2_loop.trips, k0_off10 k = ![k.val / 64, 16 * (k.val % 64)]
    ∧ ∀ b, (![k0_off11 k, k0_off12 k, k0_off13 k, k0_off14 k] : Fin 4 → Fin 3 → ℕ) b = ![b.val, k.val / 64, 16 * (k.val % 64)] := by decide +kernel
theorem lanes4 : ∀ k : Fin k0_t4_loop.trips, k0_off17 k = ![k.val / 64, 16 * (k.val % 64)]
    ∧ ∀ b, (![k0_off18 k, k0_off19 k, k0_off20 k, k0_off21 k] : Fin 4 → Fin 3 → ℕ) b = ![b.val, k.val / 64, 16 * (k.val % 64)] := by decide +kernel
theorem lanes5 : ∀ k : Fin k0_t5_loop.trips, k0_off25 k = ![k.val / 64, 16 * (k.val % 64)]
    ∧ ∀ b, (![k0_off26 k, k0_off27 k, k0_off28 k, k0_off29 k] : Fin 4 → Fin 3 → ℕ) b = ![b.val, k.val / 64, 16 * (k.val % 64)] := by decide +kernel
theorem lanes6 : ∀ k : Fin k0_t6_loop.trips, k0_off33 k = ![k.val / 64, 16 * (k.val % 64)]
    ∧ ∀ b, (![k0_off34 k, k0_off35 k, k0_off36 k, k0_off37 k] : Fin 4 → Fin 3 → ℕ) b = ![b.val, k.val / 64, 16 * (k.val % 64)] := by decide +kernel

/-! ## The five loops -/

section Loops

variable (d : Dev nD) (L : grid0.Coords)
variable {arg2 : Memref sig .scVector .hbm S4x8192x1024 .f32} {harg2 : arg2.IsWhole} {arg3 : Memref sig .scVector .hbm S8192x1024 .f32} {harg3 : arg3.IsWhole}
  {arg4 : Memref sig .scVector .hbm S4x8192x1024 .f32} {harg4 : arg4.IsWhole} {arg5 : Memref sig .scVector .vmem S4x8x1024 .f32} {harg5 : arg5.IsWhole}
  {arg6 : Memref sig .scVector .vmem S4x8x1024 .f32} {harg6 : arg6.IsWhole} {arg7 : Memref sig .scVector .vmem S4x8x1024 .f32} {harg7 : arg7.IsWhole}
  {arg8 : Memref sig .scVector .vmem S8x1024 .f32} {harg8 : arg8.IsWhole} {arg9 : Memref sig .scVector .vmem S8x1024 .f32} {harg9 : arg9.IsWhole}
  {arg10 : Memref sig .scVector .vmem S8x1024 .f32} {harg10 : arg10.IsWhole}
  {arg11 arg12 arg13 arg14 arg15 arg16 arg17 arg18 arg19 : DmaSems sig S_}

/-- The first chunk's loop, on slot 0. -/
theorem adds1 (v2 c0 c1 : BitVec 32) :
    Adds d _ _ (Scf.Loop.for k0_t1_loop k0_t1_ok ⟨⟩ (k0_t1_body (F := F) L arg2 harg2 arg3 harg3 arg4 harg4 arg5 harg5 arg6 harg6 arg7 harg7 arg8 harg8 arg9 harg9 arg10 harg10 arg11 arg12 arg13 arg14 arg15 arg16 arg17 arg18 arg19 v2 c0 c1)) arg5 arg8 := fun _ X P kk Q =>
  wp_addLoop d _ _ k0_t1_loop k0_t1_ok (by decide) _ arg5 arg8 k0_off5 (fun k => k0_off5_inb k)
    (fun k => ![k0_off6 k, k0_off7 k, k0_off8 k, k0_off9 k])
    (fun k b => match b with | 0 => k0_off6_inb k | 1 => k0_off7_inb k | 2 => k0_off8_inb k | 3 => k0_off9_inb k)
    (fun k => (lanes1 k).1) (fun k => (lanes1 k).2) (fun _ _ => rfl) X P kk Q

/-- The second chunk's loop, on slot 1. -/
theorem adds2 (v2 c0 c1 : BitVec 32) :
    Adds d _ _ (Scf.Loop.for k0_t2_loop k0_t2_ok ⟨⟩ (k0_t2_body (F := F) L arg2 harg2 arg3 harg3 arg4 harg4 arg5 harg5 arg6 harg6 arg7 harg7 arg8 harg8 arg9 harg9 arg10 harg10 arg11 arg12 arg13 arg14 arg15 arg16 arg17 arg18 arg19 v2 c0 c1)) arg6 arg9 := fun _ X P kk Q =>
  wp_addLoop d _ _ k0_t2_loop k0_t2_ok (by decide) _ arg6 arg9 k0_off10 (fun k => k0_off10_inb k)
    (fun k => ![k0_off11 k, k0_off12 k, k0_off13 k, k0_off14 k])
    (fun k b => match b with | 0 => k0_off11_inb k | 1 => k0_off12_inb k | 2 => k0_off13_inb k | 3 => k0_off14_inb k)
    (fun k => (lanes2 k).1) (fun k => (lanes2 k).2) (fun _ _ => rfl) X P kk Q

/-- The loop of the switch's last branch, on slot 2. -/
theorem adds4 (v2 a20 : BitVec 32) (t : Fin k0_t3_loop.trips) (h1 : k0_cond1 t = 1#1) (h2 : k0_cond2 t = 1#1) :
    Adds d _ _ (Scf.Loop.for k0_t4_loop (k0_t4_ok t h1 h2) ⟨⟩ (k0_t4_body (F := F) L arg2 harg2 arg3 harg3 arg4 harg4 arg5 harg5 arg6 harg6 arg7 harg7 arg8 harg8 arg9 harg9 arg10 harg10 arg11 arg12 arg13 arg14 arg15 arg16 arg17 arg18 arg19 v2 t a20 h1 h2)) arg7 arg10 := fun _ X P kk Q =>
  wp_addLoop d _ _ k0_t4_loop (k0_t4_ok t h1 h2) (by decide) _ arg7 arg10 k0_off17 (fun k => k0_off17_inb t k h1 h2)
    (fun k => ![k0_off18 k, k0_off19 k, k0_off20 k, k0_off21 k])
    (fun k b => match b with | 0 => k0_off18_inb t k h1 h2 | 1 => k0_off19_inb t k h1 h2 | 2 => k0_off20_inb t k h1 h2 | 3 => k0_off21_inb t k h1 h2)
    (fun k => (lanes4 k).1) (fun k => (lanes4 k).2) (fun _ _ => rfl) X P kk Q

/-- The loop of its middle branch, on slot 1. -/
theorem adds5 (v2 a20 : BitVec 32) (t : Fin k0_t3_loop.trips) (h1 : k0_cond1 t = 1#1) (h2 : ¬(k0_cond2 t = 1#1)) :
    Adds d _ _ (Scf.Loop.for k0_t5_loop (k0_t5_ok t h1 h2) ⟨⟩ (k0_t5_body (F := F) L arg2 harg2 arg3 harg3 arg4 harg4 arg5 harg5 arg6 harg6 arg7 harg7 arg8 harg8 arg9 harg9 arg10 harg10 arg11 arg12 arg13 arg14 arg15 arg16 arg17 arg18 arg19 v2 t a20 h1 h2)) arg6 arg9 := fun _ X P kk Q =>
  wp_addLoop d _ _ k0_t5_loop (k0_t5_ok t h1 h2) (by decide) _ arg6 arg9 k0_off25 (fun k => k0_off25_inb t k h1 h2)
    (fun k => ![k0_off26 k, k0_off27 k, k0_off28 k, k0_off29 k])
    (fun k b => match b with | 0 => k0_off26_inb t k h1 h2 | 1 => k0_off27_inb t k h1 h2 | 2 => k0_off28_inb t k h1 h2 | 3 => k0_off29_inb t k h1 h2)
    (fun k => (lanes5 k).1) (fun k => (lanes5 k).2) (fun _ _ => rfl) X P kk Q

/-- The loop of its first branch, on slot 0. -/
theorem adds6 (v2 a20 : BitVec 32) (t : Fin k0_t3_loop.trips) (h1 : ¬(k0_cond1 t = 1#1)) :
    Adds d _ _ (Scf.Loop.for k0_t6_loop (k0_t6_ok t h1) ⟨⟩ (k0_t6_body (F := F) L arg2 harg2 arg3 harg3 arg4 harg4 arg5 harg5 arg6 harg6 arg7 harg7 arg8 harg8 arg9 harg9 arg10 harg10 arg11 arg12 arg13 arg14 arg15 arg16 arg17 arg18 arg19 v2 t a20 h1)) arg5 arg8 := fun _ X P kk Q =>
  wp_addLoop d _ _ k0_t6_loop (k0_t6_ok t h1) (by decide) _ arg5 arg8 k0_off33 (fun k => k0_off33_inb t k h1)
    (fun k => ![k0_off34 k, k0_off35 k, k0_off36 k, k0_off37 k])
    (fun k b => match b with | 0 => k0_off34_inb t k h1 | 1 => k0_off35_inb t k h1 | 2 => k0_off36_inb t k h1 | 3 => k0_off37_inb t k h1)
    (fun k => (lanes6 k).1) (fun k => (lanes6 k).2) (fun _ _ => rfl) X P kk Q

end Loops

end Cert.Proof.Sc

end
-- ==== Proof.Turn.lean ====
/-
  One turn of the main loop: the next slot's copy out is waited for and its copies in are started, the current slot's copies in
  are waited for, its sums are made, and its copy out is started. The switch's three branches are the same turn on the three
  rotations of the slots.
-/
module

public import proofs.«01_k».proof.Proof.Loops

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (MayWaits)

variable {F : FTy → Type} [FloatOps F]

local notation "𝕄" => MT nD τ sig (HIx 1) (Elt F) ℕ UU ℕ

section Turn

variable (d : Dev nD) (cc : Fin τ.nSC) (ww : Fin τ.nSub) (mx : Buf (Elt F) (xLoc d)) (mp : Buf (Elt F) (pLoc d)) {α : Type}

/-- A loaded slot's sums are made. -/
theorem wp_sums (S : Slot) (p : TProg F cc ww Unit) (hp : Adds d cc ww p S.xr S.pr) (X : S4x8x1024.Idx → Elt F .f32) (P : S8x1024.Idx → Elt F .f32)
    (kk : Unit → TProg F cc ww α) (Q : α → sProp 𝕄) :
    Full d cc ww mx mp S X P ⊢ iprop((Full d cc ww mx mp S (sum X P) P -∗ WP d cc ww (kk ⟨⟩) Q) -∗ WP d cc ww (p >>= kk) Q) := by
  unfold Full
  iintro ⟨Hx, Hp, Hr⟩ Hk
  iapply (hp α X P kk Q) $$ [Hx Hp]
  · isplitl [Hx]; · iexact Hx
    iexact Hp
  iintro ⟨Hx, Hp⟩
  iapply Hk
  isplitl [Hx]; · iexact Hx
  isplitl [Hp]; · iexact Hp
  iexact Hr

/-- The turn: `A` is the current slot, with chunk `n`; `B` is the next one, which held chunk `n₀` and gets chunk `n'`. -/
theorem wp_turn (A B : Slot) (n n₀ n' : Fin 1024) (g : Buf (Elt F) (oLoc d)) (O : CellTallies nD τ sig (HIx 1)) (W : Waits sig (HIx 1))
    (p : TProg F cc ww Unit) (hp : Adds d cc ww p A.xr A.pr)
    (z : Fin 3 → ℕ) (hz : ∀ a, z a + S4x8x1024.size a ≤ S4x8192x1024.size a)
    (o : Fin 3 → ℕ) (ho : ∀ a, o a + S4x8x1024.size a ≤ S4x8192x1024.size a) (hoe : o = ![0, 8 * n'.val, 0])
    (o' : Fin 2 → ℕ) (ho' : ∀ a, o' a + S8x1024.size a ≤ S8192x1024.size a) (hoe' : o' = ![8 * n'.val, 0])
    (r : Fin 3 → ℕ) (hr : ∀ a, r a + S4x8x1024.size a ≤ S4x8192x1024.size a) (hre : r = ![0, 8 * n.val, 0])
    {s₁ s₂ s₃ : Shape} {sp₁ sp₂ sp₃ : Space} (w₁ : Memref sig .scVector sp₁ s₁ .f32) (w₂ : Memref sig .scVector sp₂ s₂ .f32)
    (w₃ : Memref sig .scVector sp₃ s₃ .f32)
    {a1 : w₁.view.WordExact} {a2 : (xWin oV z hz).view.WordExact}
    {b1 : (xWin xV o ho).view.WordExact} {b2 : (DmaTarget.here (nD := nD) (τ := τ) (p := .scVector cc ww) B.xr).view.WordExact}
    {b3 : (DmaTarget.here (nD := nD) (τ := τ) (p := .scVector cc ww) B.xr).Typed .hbm (.dma B.sx)}
    {c1 : (pWin o' ho').view.WordExact} {c2 : (DmaTarget.here (nD := nD) (τ := τ) (p := .scVector cc ww) B.pr).view.WordExact}
    {c3 : (DmaTarget.here (nD := nD) (τ := τ) (p := .scVector cc ww) B.pr).Typed .hbm (.dma B.sp)}
    {d1 : w₂.view.WordExact} {d2 : A.xr.view.WordExact} {e1 : w₃.view.WordExact} {e2 : A.pr.view.WordExact}
    {f1 : A.xr.view.WordExact} {f2 : (DmaTarget.here (nD := nD) (τ := τ) (p := .scVector cc ww) (xWin oV r hr)).view.WordExact}
    {f3 : (DmaTarget.here (nD := nD) (τ := τ) (p := .scVector cc ww) (xWin oV r hr)).Typed .vmem (.dma A.so)}
    (Q : Unit → sProp 𝕄) :
    iprop(MayWaits (V d cc ww) (none : HIx 1) O ∗ Loading d cc ww mx mp A n ∗ Storing d cc ww mx mp B n₀ ∗ oChunk d n g ∗ Owed d cc ww O W)
      ⊢ iprop((iprop(Loading d cc ww mx mp B n' ∗ Storing d cc ww mx mp A n ∗ oChunk d n₀ (out mx mp) ∗ Owed d cc ww O W) -∗ Q ⟨⟩)
        -∗ WP d cc ww (.op (.waitDma2 B.so w₁ (xWin oV z hz) a1 a2) fun _ => .op (.enqueueDma (xWin xV o ho) (.here B.xr) (.dma B.sx) b1 b2 b3)
            fun _ => .op (.enqueueDma (pWin o' ho') (.here B.pr) (.dma B.sp) c1 c2 c3) fun _ => .op (.waitDma2 A.sx w₂ A.xr d1 d2)
            fun _ => .op (.waitDma2 A.sp w₃ A.pr e1 e2) fun _ => p >>= fun _ =>
              .op (.enqueueDma A.xr (.here (xWin oV r hr)) (.dma A.so) f1 f2 f3) fun _ => pure ⟨⟩) Q) := by
  iintro ⟨#Hmw, HA, HB, Ho, HO⟩ Hk
  iapply (wp_drain d cc ww mx mp B n₀ O W w₁ z hz) $$ [HB HO]
  · isplitr; · iexact Hmw
    isplitl [HB]; · iexact HB
    iexact HO
  iintro ⟨HB, Ho₀, HO⟩
  iapply (wp_start d cc ww mx mp B n' o ho hoe o' ho' hoe') $$ HB
  iintro HB
  iapply (wp_arrive d cc ww mx mp A n O W w₂ w₃) $$ [HA HO]
  · isplitr; · iexact Hmw
    isplitl [HA]; · iexact HA
    iexact HO
  iintro ⟨HA, HO⟩
  iapply (wp_sums d cc ww mx mp A p hp) $$ HA
  iintro HA
  iapply (wp_send d cc ww mx mp A n g r hr hre) $$ [HA Ho]
  · isplitl [HA]; · iexact HA
    iexact Ho
  iintro HA
  simp only [wp_pure]
  imodintro
  iapply Hk
  isplitl [HB]; · iexact HB
  isplitl [HA]; · iexact HA
  isplitl [Ho₀]; · iexact Ho₀
  iexact HO

end Turn

/-! ## The three branches -/

/-- The core a tile's coordinates name. -/
abbrev cV (L : grid0.Coords) : Fin τ.nSC := (L 0).castLE hcore0

/-- The subcore they name. -/
abbrev jV (L : grid0.Coords) : Fin τ.nSub := (L 1).castLE hsub0

/-- The tile at coordinates `L` works on chunks `64 * (L 1) + 32 * (L 0) + k`, `k < 32`; the chunk it loads after its last one is
its first one again. -/
def nOf (L : grid0.Coords) (k : ℕ) : Fin 1024 :=
  ⟨64 * (L 1).val + 32 * (L 0).val + k % 32, by
    have h0 : (L 0).val < 2 := (L 0).isLt
    have h1 : (L 1).val < 16 := (L 1).isLt
    omega⟩

/-- The slot of chunk `k` among three slots. -/
def slotOf (S₀ S₁ S₂ : Slot) (k : ℕ) : Slot := if k % 3 = 0 then S₀ else if k % 3 = 1 then S₁ else S₂

theorem cond1_iff : ∀ t : Fin k0_t3_loop.trips, k0_cond1 t = 1#1 ↔ ¬(t.val + 2) % 3 = 0 := by decide +kernel

theorem cond2_iff : ∀ t : Fin k0_t3_loop.trips, k0_cond2 t = 1#1 ↔ (t.val + 2) % 3 = 2 ∨ (t.val + 2) % 3 = 0 := by decide +kernel

theorem trips3 : k0_t3_loop.trips = 30 := by decide +kernel

section Trip

variable (d : Dev nD) (L : grid0.Coords)
variable {arg5 : Memref sig .scVector .vmem S4x8x1024 .f32} {harg5 : arg5.IsWhole}
  {arg6 : Memref sig .scVector .vmem S4x8x1024 .f32} {harg6 : arg6.IsWhole} {arg7 : Memref sig .scVector .vmem S4x8x1024 .f32} {harg7 : arg7.IsWhole}
  {arg8 : Memref sig .scVector .vmem S8x1024 .f32} {harg8 : arg8.IsWhole} {arg9 : Memref sig .scVector .vmem S8x1024 .f32} {harg9 : arg9.IsWhole}
  {arg10 : Memref sig .scVector .vmem S8x1024 .f32} {harg10 : arg10.IsWhole}
  {arg11 arg12 arg13 arg14 arg15 arg16 arg17 arg18 arg19 : DmaSems sig S_}

/-- One trip of the main loop, at any slot the switch picks. -/
theorem wp_trip (mx : Buf (Elt F) (xLoc d)) (mp : Buf (Elt F) (pLoc d)) (q₀ q₁ q₂ : PosShare TreeShare) (t : Fin k0_t3_loop.trips)
    (g : Buf (Elt F) (oLoc d)) (O : CellTallies nD τ sig (HIx 1)) (W : Waits sig (HIx 1)) (v2 : BitVec 32) (Q : Unit → sProp 𝕄)
    {sl : ℕ → Slot} (hsl : sl = slotOf ⟨arg5, arg8, arg11.sem, arg14.sem, arg17.sem, q₀⟩ ⟨arg6, arg9, arg12.sem, arg15.sem, arg18.sem, q₁⟩
      ⟨arg7, arg10, arg13.sem, arg16.sem, arg19.sem, q₂⟩) :
    iprop(MayWaits (V d (cV L) (jV L)) (none : HIx 1) O ∗ Loading d (cV L) (jV L) mx mp (sl (t.val + 2)) (nOf L (t.val + 2)) ∗ Storing d (cV L) (jV L) mx mp (sl t.val) (nOf L t.val)
        ∗ oChunk d (nOf L (t.val + 2)) g ∗ Owed d (cV L) (jV L) O W)
      ⊢ iprop((iprop(Loading d (cV L) (jV L) mx mp (sl (t.val + 3)) (nOf L (t.val + 3)) ∗ Storing d (cV L) (jV L) mx mp (sl (t.val + 2)) (nOf L (t.val + 2))
            ∗ oChunk d (nOf L t.val) (out mx mp) ∗ Owed d (cV L) (jV L) O W) -∗ Q ⟨⟩)
        -∗ WP d (cV L) (jV L) (k0_t3_body (F := F) L xV (Memref.isWhole_whole _) pV (Memref.isWhole_whole _) oV (Memref.isWhole_whole _) arg5 harg5 arg6 harg6 arg7 harg7 arg8 harg8
            arg9 harg9 arg10 harg10 arg11 arg12 arg13 arg14 arg15 arg16 arg17 arg18 arg19 v2 t ⟨⟩) Q) := by
  have ht : t.val < 30 := lt_of_lt_of_eq t.isLt trips3
  have hw : 8 * (nOf L (t.val + 3)).val = 512 * (L 1).val + 256 * (L 0).val + 8 * (if t.val + 3 = 32 then 0 else t.val + 3) := by
    show 8 * (64 * (L 1).val + 32 * (L 0).val + (t.val + 3) % 32) = _
    split <;> omega
  have hr : 8 * (nOf L (t.val + 2)).val = 512 * (L 1).val + 256 * (L 0).val + 8 * t.val + 16 := by
    show 8 * (64 * (L 1).val + 32 * (L 0).val + (t.val + 2) % 32) = _
    omega
  have hs : sl (t.val + 3) = sl t.val := by rw [hsl]; unfold slotOf; rw [show (t.val + 3) % 3 = t.val % 3 by omega]
  rw [hs]
  unfold k0_t3_body
  by_cases h1 : k0_cond1 t = 1#1
  · rw [dif_pos h1]
    by_cases h2 : k0_cond2 t = 1#1
    · rw [dif_pos h2]
      have c1 := (cond1_iff t).mp h1
      have c2 := (cond2_iff t).mp h2
      have hA : sl (t.val + 2) = ⟨arg7, arg10, arg13.sem, arg16.sem, arg19.sem, q₂⟩ := by rw [hsl]; unfold slotOf; rw [if_neg (by omega), if_neg (by omega)]
      have hB : sl t.val = ⟨arg5, arg8, arg11.sem, arg14.sem, arg17.sem, q₀⟩ := by rw [hsl]; unfold slotOf; rw [if_pos (by omega)]
      rw [hA, hB, k0_part4_eq_skeleton]
      unfold k0_part4_skel
      simp only [bind_assoc, pure_bind]
      exact wp_turn d (cV L) (jV L) mx mp ⟨arg7, arg10, arg13.sem, arg16.sem, arg19.sem, q₂⟩ ⟨arg5, arg8, arg11.sem, arg14.sem, arg17.sem, q₀⟩ _ _ _ g O W _
        (adds4 d L v2 (Scf.iv 2#32 1#32 t) t h1 h2) ![0, 0, 0] inb_S4x8192x1024_S4x8x1024_0_0_0
        (k0_off15 L t) (k0_off15_inb L t h1 h2) ((k0_off15_eq L t).trans (by rw [hw]))
        (k0_off16 L t) (k0_off16_inb L t h1 h2) ((k0_off16_eq L t).trans (by rw [hw]))
        (k0_off22 L t) (k0_off22_inb L t h1 h2) ((k0_off22_eq L t).trans (by rw [hr])) _ _ _ Q
    · rw [dif_neg h2]
      have c1 := (cond1_iff t).mp h1
      have c2 := (not_congr (cond2_iff t)).mp h2
      have hA : sl (t.val + 2) = ⟨arg6, arg9, arg12.sem, arg15.sem, arg18.sem, q₁⟩ := by rw [hsl]; unfold slotOf; rw [if_neg (by omega), if_pos (by omega)]
      have hB : sl t.val = ⟨arg7, arg10, arg13.sem, arg16.sem, arg19.sem, q₂⟩ := by rw [hsl]; unfold slotOf; rw [if_neg (by omega), if_neg (by omega)]
      rw [hA, hB, k0_part6_eq_skeleton]
      unfold k0_part6_skel
      simp only [bind_assoc, pure_bind]
      exact wp_turn d (cV L) (jV L) mx mp ⟨arg6, arg9, arg12.sem, arg15.sem, arg18.sem, q₁⟩ ⟨arg7, arg10, arg13.sem, arg16.sem, arg19.sem, q₂⟩ _ _ _ g O W _
        (adds5 d L v2 (Scf.iv 2#32 1#32 t) t h1 h2) ![0, 0, 0] inb_S4x8192x1024_S4x8x1024_0_0_0
        (k0_off23 L t) (k0_off23_inb L t h1 h2) ((k0_off23_eq L t).trans (by rw [hw]))
        (k0_off24 L t) (k0_off24_inb L t h1 h2) ((k0_off24_eq L t).trans (by rw [hw]))
        (k0_off30 L t) (k0_off30_inb L t h1 h2) ((k0_off30_eq L t).trans (by rw [hr])) _ _ _ Q
  · rw [dif_neg h1]
    have c1 := (not_congr (cond1_iff t)).mp h1
    have hA : sl (t.val + 2) = ⟨arg5, arg8, arg11.sem, arg14.sem, arg17.sem, q₀⟩ := by rw [hsl]; unfold slotOf; rw [if_pos (by omega)]
    have hB : sl t.val = ⟨arg6, arg9, arg12.sem, arg15.sem, arg18.sem, q₁⟩ := by rw [hsl]; unfold slotOf; rw [if_neg (by omega), if_pos (by omega)]
    rw [hA, hB, k0_part8_eq_skeleton]
    unfold k0_part8_skel
    simp only [bind_assoc, pure_bind]
    exact wp_turn d (cV L) (jV L) mx mp ⟨arg5, arg8, arg11.sem, arg14.sem, arg17.sem, q₀⟩ ⟨arg6, arg9, arg12.sem, arg15.sem, arg18.sem, q₁⟩ _ _ _ g O W _
      (adds6 d L v2 (Scf.iv 2#32 1#32 t) t h1) ![0, 0, 0] inb_S4x8192x1024_S4x8x1024_0_0_0
      (k0_off31 L t) (k0_off31_inb L t h1) ((k0_off31_eq L t).trans (by rw [hw]))
      (k0_off32 L t) (k0_off32_inb L t h1) ((k0_off32_eq L t).trans (by rw [hw]))
      (k0_off38 L t) (k0_off38_inb L t h1) ((k0_off38_eq L t).trans (by rw [hr])) _ _ _ Q

end Trip

end Cert.Proof.Sc

end
-- ==== Proof.Tile.lean ====
/-
  A tile's whole program: from three idle slots and the tile's 32 chunks of the result's array, to three idle slots and the same
  chunks holding the sums.
-/
module

public import proofs.«01_k».proof.Proof.Turn

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (MayWaits)

variable {F : FTy → Type} [FloatOps F]

local notation "𝕄" => MT nD τ sig (HIx 1) (Elt F) ℕ UU ℕ

/-! ## The chunks a tile has still to do, and those it has done -/

/-- The tile's chunks from the `k`-th on. -/
def pend (d : Dev nD) (L : grid0.Coords) (f : Buf (Elt F) (oLoc d)) (k : ℕ) : sProp 𝕄 :=
  bigSep (Finset.Ico k 32) fun k => oChunk d (nOf L k) f

/-- Its chunks before the `k`-th. -/
def done (d : Dev nD) (L : grid0.Coords) (f : Buf (Elt F) (oLoc d)) (k : ℕ) : sProp 𝕄 :=
  bigSep (Finset.range k) fun k => oChunk d (nOf L k) f

omit [FloatOps F] in
theorem pend_take (d : Dev nD) (L : grid0.Coords) (f : Buf (Elt F) (oLoc d)) (k : ℕ) (hk : k < 32) :
    (pend d L f k : sProp 𝕄) = iprop(oChunk d (nOf L k) f ∗ pend d L f (k + 1)) := by
  unfold pend
  rw [show Finset.Ico k 32 = insert k (Finset.Ico (k + 1) 32) by
    ext a
    simp only [Finset.mem_Ico, Finset.mem_insert]
    omega, SparseCore.bigSep_insert' (by simp)]

omit [FloatOps F] in
theorem done_put (d : Dev nD) (L : grid0.Coords) (f : Buf (Elt F) (oLoc d)) (k : ℕ) :
    (done d L f (k + 1) : sProp 𝕄) = iprop(oChunk d (nOf L k) f ∗ done d L f k) := by
  unfold done
  rw [Finset.range_add_one, SparseCore.bigSep_insert' (by simp)]

omit [FloatOps F] in
theorem done_zero (d : Dev nD) (L : grid0.Coords) (f : Buf (Elt F) (oLoc d)) : (done d L f 0 : sProp 𝕄) = iprop(emp) := by
  unfold done
  rw [Finset.range_zero]
  exact BI.bigSep_empty

/-- A loaded slot is idle. -/
theorem Full_idle (d : Dev nD) (cc : Fin τ.nSC) (ww : Fin τ.nSub) (mx : Buf (Elt F) (xLoc d)) (mp : Buf (Elt F) (pLoc d)) (S : Slot)
    (X : S4x8x1024.Idx → Elt F .f32) (P : S8x1024.Idx → Elt F .f32) :
    Full d cc ww mx mp S X P ⊢ (Idle d cc ww mx mp S : sProp 𝕄) := by
  unfold Full Idle
  iintro ⟨Hx, Hp, Hr⟩
  ihave Hx' := (Holds_elim d cc ww S.xr _) $$ Hx
  icases Hx' with ⟨%f, Hx, -⟩
  ihave Hp' := (Holds_elim d cc ww S.pr _) $$ Hp
  icases Hp' with ⟨%g, Hp, -⟩
  unfold Own
  isplitl [Hx]; · iexists f; iexact Hx
  isplitl [Hp]; · iexists g; iexact Hp
  iexact Hr

section Tile

variable (d : Dev nD) (L : grid0.Coords)
variable {arg5 : Memref sig .scVector .vmem S4x8x1024 .f32} {harg5 : arg5.IsWhole}
  {arg6 : Memref sig .scVector .vmem S4x8x1024 .f32} {harg6 : arg6.IsWhole} {arg7 : Memref sig .scVector .vmem S4x8x1024 .f32} {harg7 : arg7.IsWhole}
  {arg8 : Memref sig .scVector .vmem S8x1024 .f32} {harg8 : arg8.IsWhole} {arg9 : Memref sig .scVector .vmem S8x1024 .f32} {harg9 : arg9.IsWhole}
  {arg10 : Memref sig .scVector .vmem S8x1024 .f32} {harg10 : arg10.IsWhole}
  {arg11 arg12 arg13 arg14 arg15 arg16 arg17 arg18 arg19 : DmaSems sig S_}

/-- Before trip `t` of the main loop: chunk `t + 2` is loading, chunks `t` and `t + 1` are being stored, the chunks before are done. -/
def Inv (mx : Buf (Elt F) (xLoc d)) (mp : Buf (Elt F) (pLoc d)) (g : Buf (Elt F) (oLoc d)) (O : CellTallies nD τ sig (HIx 1))
    (W : Waits sig (HIx 1)) (sl : ℕ → Slot) (t : ℕ) : sProp 𝕄 :=
  iprop(Loading d (cV L) (jV L) mx mp (sl (t + 2)) (nOf L (t + 2)) ∗ Storing d (cV L) (jV L) mx mp (sl t) (nOf L t)
    ∗ Storing d (cV L) (jV L) mx mp (sl (t + 1)) (nOf L (t + 1)) ∗ done d L (out mx mp) t ∗ pend d L g (t + 2) ∗ Owed d (cV L) (jV L) O W)

/-- The main loop. -/
theorem wp_main {α : Type} (mx : Buf (Elt F) (xLoc d)) (mp : Buf (Elt F) (pLoc d)) (q₀ q₁ q₂ : PosShare TreeShare)
    (g : Buf (Elt F) (oLoc d)) (O : CellTallies nD τ sig (HIx 1)) (W : Waits sig (HIx 1)) (v2 : BitVec 32) (kk : Unit → TProg F (cV L) (jV L) α) (Q : α → sProp 𝕄)
    {sl : ℕ → Slot} (hsl : sl = slotOf ⟨arg5, arg8, arg11.sem, arg14.sem, arg17.sem, q₀⟩ ⟨arg6, arg9, arg12.sem, arg15.sem, arg18.sem, q₁⟩
      ⟨arg7, arg10, arg13.sem, arg16.sem, arg19.sem, q₂⟩) :
    iprop(MayWaits (V d (cV L) (jV L)) (none : HIx 1) O ∗ Inv d L mx mp g O W sl 0)
      ⊢ iprop((Inv d L mx mp g O W sl 30 -∗ WP d (cV L) (jV L) (kk ⟨⟩) Q)
        -∗ WP d (cV L) (jV L) (Scf.Loop.for k0_t3_loop k0_t3_ok ⟨⟩ (k0_t3_body (F := F) L xV (Memref.isWhole_whole _) pV (Memref.isWhole_whole _) oV (Memref.isWhole_whole _) arg5 harg5 arg6 harg6 arg7 harg7 arg8 harg8
            arg9 harg9 arg10 harg10 arg11 arg12 arg13 arg14 arg15 arg16 arg17 arg18 arg19 v2) >>= kk) Q) := by
  have h := Scf.wp_for_bind frame (wpE (defs₀ (F := F)) 𝒱₀ (V d (cV L) (jV L)) none) Set.univ k0_t3_loop.lb k0_t3_loop.ub k0_t3_loop.st k0_t3_ok (⟨⟩ : Unit)
    (k0_t3_body (F := F) L xV (Memref.isWhole_whole _) pV (Memref.isWhole_whole _) oV (Memref.isWhole_whole _) arg5 harg5 arg6 harg6 arg7 harg7 arg8 harg8
            arg9 harg9 arg10 harg10 arg11 arg12 arg13 arg14 arg15 arg16 arg17 arg18 arg19 v2)
    (fun t _ => iprop(MayWaits (V d (cV L) (jV L)) (none : HIx 1) O ∗ Inv d L mx mp g O W sl t))
    (fun t u => by
      have ht : t.val < 30 := lt_of_lt_of_eq t.isLt trips3
      unfold Inv
      rw [pend_take d L g (t.val + 2) (by omega), done_put]
      iintro ⟨#Hmw, HA, HB, HC, Hd, ⟨Hc, Hpend⟩, HO⟩
      iapply (wp_trip d L mx mp q₀ q₁ q₂ t g O W v2 _ hsl) $$ [HA HB Hc HO]
      · isplitr; · iexact Hmw
        isplitl [HA]; · iexact HA
        isplitl [HB]; · iexact HB
        isplitl [Hc]; · iexact Hc
        iexact HO
      iintro ⟨HB, HA, Hc, HO⟩
      isplitr; · iexact Hmw
      isplitl [HB]; · iexact HB
      isplitl [HC]; · iexact HC
      isplitl [HA]; · iexact HA
      isplitl [Hc Hd]
      · isplitl [Hc]; · iexact Hc
        iexact Hd
      isplitl [Hpend]; · iexact Hpend
      iexact HO) (kk := kk) (Q := Q)
  rw [show Scf.trips k0_t3_loop.lb k0_t3_loop.ub k0_t3_loop.st = 30 from trips3] at h
  refine h.trans (wand_mono_left ?_)
  iintro Hk %u ⟨-, H⟩
  iapply Hk; iexact H

/-- The tile's program. -/
theorem wp_tile (mx : Buf (Elt F) (xLoc d)) (mp : Buf (Elt F) (pLoc d)) (q₀ q₁ q₂ : PosShare TreeShare)
    (g : Buf (Elt F) (oLoc d)) (O : CellTallies nD τ sig (HIx 1)) (W : Waits sig (HIx 1)) (Q : PUnit → sProp 𝕄)
    {S₀ S₁ S₂ : Slot} (h₀ : S₀ = ⟨arg5, arg8, arg11.sem, arg14.sem, arg17.sem, q₀⟩) (h₁ : S₁ = ⟨arg6, arg9, arg12.sem, arg15.sem, arg18.sem, q₁⟩)
    (h₂ : S₂ = ⟨arg7, arg10, arg13.sem, arg16.sem, arg19.sem, q₂⟩) :
    iprop(MayWaits (V d (cV L) (jV L)) (none : HIx 1) O ∗ Idle d (cV L) (jV L) mx mp S₀ ∗ Idle d (cV L) (jV L) mx mp S₁ ∗ Idle d (cV L) (jV L) mx mp S₂
        ∗ pend d L g 0 ∗ Owed d (cV L) (jV L) O W)
      ⊢ iprop((iprop(Idle d (cV L) (jV L) mx mp S₀ ∗ Idle d (cV L) (jV L) mx mp S₁ ∗ Idle d (cV L) (jV L) mx mp S₂
            ∗ done d L (out mx mp) 32 ∗ Owed d (cV L) (jV L) O W) -∗ Q ⟨⟩)
        -∗ WP d (cV L) (jV L) (cc0__sc_body (F := F) L xV (Memref.isWhole_whole _) pV (Memref.isWhole_whole _) oV (Memref.isWhole_whole _) arg5 harg5 arg6 harg6 arg7 harg7 arg8 harg8
            arg9 harg9 arg10 harg10 arg11 arg12 arg13 arg14 arg15 arg16 arg17 arg18 arg19) Q) := by
  have n0 : 8 * (nOf L 0).val = 512 * (L 1).val + 256 * (L 0).val := by
    show 8 * (64 * (L 1).val + 32 * (L 0).val + 0 % 32) = _
    omega
  have n1 : 8 * (nOf L 1).val = 512 * (L 1).val + 256 * (L 0).val + 8 := by
    show 8 * (64 * (L 1).val + 32 * (L 0).val + 1 % 32) = _
    omega
  have n2 : 8 * (nOf L 2).val = 512 * (L 1).val + 256 * (L 0).val + 16 := by
    show 8 * (64 * (L 1).val + 32 * (L 0).val + 2 % 32) = _
    omega
  rw [pend_take d L g 0 (by omega), pend_take d L g 1 (by omega), cc0__sc_body_eq_skeleton]
  unfold cc0__sc_body_skel
  rw [k0_part9_eq_skeleton, k0_part10_eq_skeleton]
  unfold k0_part9_skel k0_part10_skel
  simp only [bind_assoc, pure_bind]
  iintro ⟨#Hmw, HS₀, HS₁, HS₂, ⟨Hc₀, Hc₁, Hpend⟩, HO⟩ Hk
  rw [h₀, h₁, h₂]
  iapply (wp_start d (cV L) (jV L) mx mp ⟨arg5, arg8, arg11.sem, arg14.sem, arg17.sem, q₀⟩ (nOf L 0) (k0_off1 L 0#32) (k0_off1_inb L 0) ((k0_off1_eq L 0).trans (by rw [n0]; rfl))
    (k0_off2 L) (k0_off2_inb L) ((k0_off2_eq L).trans (by rw [n0]))) $$ HS₀
  iintro HS₀
  iapply (wp_start d (cV L) (jV L) mx mp ⟨arg6, arg9, arg12.sem, arg15.sem, arg18.sem, q₁⟩ (nOf L 1) (k0_off3 L 1#32) (k0_off3_inb L 0) ((k0_off3_eq L 0).trans (by rw [n1]; rfl))
    (k0_off4 L 1#32) (k0_off4_inb L 0) ((k0_off4_eq L 0).trans (by rw [n1]; rfl))) $$ HS₁
  iintro HS₁
  iapply (wp_arrive d (cV L) (jV L) mx mp ⟨arg5, arg8, arg11.sem, arg14.sem, arg17.sem, q₀⟩ (nOf L 0) O W _ _) $$ [HS₀ HO]
  · isplitr; · iexact Hmw
    isplitl [HS₀]; · iexact HS₀
    iexact HO
  iintro ⟨HS₀, HO⟩
  iapply (wp_sums d (cV L) (jV L) mx mp ⟨arg5, arg8, arg11.sem, arg14.sem, arg17.sem, q₀⟩ _ (adds1 d L _ _ _)) $$ HS₀
  iintro HS₀
  iapply (wp_send d (cV L) (jV L) mx mp ⟨arg5, arg8, arg11.sem, arg14.sem, arg17.sem, q₀⟩ (nOf L 0) g (k0_off1 L 0#32) (k0_off1_inb L 0) ((k0_off1_eq L 0).trans (by rw [n0]; rfl))) $$ [HS₀ Hc₀]
  · isplitl [HS₀]; · iexact HS₀
    iexact Hc₀
  iintro HS₀
  iapply (wp_start d (cV L) (jV L) mx mp ⟨arg7, arg10, arg13.sem, arg16.sem, arg19.sem, q₂⟩ (nOf L 2) (k0_off3 L 2#32) (k0_off3_inb L 1) ((k0_off3_eq L 1).trans (by rw [n2]; rfl))
    (k0_off4 L 2#32) (k0_off4_inb L 1) ((k0_off4_eq L 1).trans (by rw [n2]; rfl))) $$ HS₂
  iintro HS₂
  iapply (wp_arrive d (cV L) (jV L) mx mp ⟨arg6, arg9, arg12.sem, arg15.sem, arg18.sem, q₁⟩ (nOf L 1) O W _ _) $$ [HS₁ HO]
  · isplitr; · iexact Hmw
    isplitl [HS₁]; · iexact HS₁
    iexact HO
  iintro ⟨HS₁, HO⟩
  iapply (wp_sums d (cV L) (jV L) mx mp ⟨arg6, arg9, arg12.sem, arg15.sem, arg18.sem, q₁⟩ _ (adds2 d L _ _ _)) $$ HS₁
  iintro HS₁
  iapply (wp_send d (cV L) (jV L) mx mp ⟨arg6, arg9, arg12.sem, arg15.sem, arg18.sem, q₁⟩ (nOf L 1) g (k0_off1 L 8#32) (k0_off1_inb L 1) ((k0_off1_eq L 1).trans (by rw [n1]; rfl))) $$ [HS₁ Hc₁]
  · isplitl [HS₁]; · iexact HS₁
    iexact Hc₁
  iintro HS₁
  iapply (wp_main d L mx mp q₀ q₁ q₂ g O W _ _ _ rfl) $$ [HS₀ HS₁ HS₂ Hpend HO]
  · isplitr; · iexact Hmw
    unfold Inv
    rw [done_zero]
    isplitl [HS₂]; · iexact HS₂
    isplitl [HS₀]; · iexact HS₀
    isplitl [HS₁]; · iexact HS₁
    isplitr; · iempintro
    isplitl [Hpend]; · iexact Hpend
    iexact HO
  unfold Inv
  iintro ⟨HS₂, HS₀, HS₁, Hdone, -, HO⟩
  iapply (wp_arrive d (cV L) (jV L) mx mp ⟨arg7, arg10, arg13.sem, arg16.sem, arg19.sem, q₂⟩ (nOf L 32) O W _ _) $$ [HS₂ HO]
  · isplitr; · iexact Hmw
    isplitl [HS₂]; · iexact HS₂
    iexact HO
  iintro ⟨HS₂, HO⟩
  iapply (wp_drain d (cV L) (jV L) mx mp ⟨arg5, arg8, arg11.sem, arg14.sem, arg17.sem, q₀⟩ (nOf L 30) O W _ ![0, 0, 0] inb_S4x8192x1024_S4x8x1024_0_0_0) $$ [HS₀ HO]
  · isplitr; · iexact Hmw
    isplitl [HS₀]; · iexact HS₀
    iexact HO
  iintro ⟨HS₀, Hc₀, HO⟩
  iapply (wp_drain d (cV L) (jV L) mx mp ⟨arg6, arg9, arg12.sem, arg15.sem, arg18.sem, q₁⟩ (nOf L 31) O W _ ![0, 0, 0] inb_S4x8192x1024_S4x8x1024_0_0_0) $$ [HS₁ HO]
  · isplitr; · iexact Hmw
    isplitl [HS₁]; · iexact HS₁
    iexact HO
  iintro ⟨HS₁, Hc₁, HO⟩
  simp only [Prog.bind, wp_pure]
  imodintro
  iapply Hk
  isplitl [HS₀]; · iexact HS₀
  isplitl [HS₁]; · iexact HS₁
  isplitl [HS₂]; · iapply (Full_idle d (cV L) (jV L) mx mp ⟨arg7, arg10, arg13.sem, arg16.sem, arg19.sem, q₂⟩ _ _) $$ HS₂
  isplitl [Hdone Hc₀ Hc₁]
  · rw [done_put d L (out mx mp) 31, done_put d L (out mx mp) 30]
    isplitl [Hc₁]; · iexact Hc₁
    isplitl [Hc₀]; · iexact Hc₀
    iexact Hdone
  iexact HO

end Tile

end Cert.Proof.Sc

end
-- ==== Proof.Deal.lean ====
/-
  What the launch deals each of the 32 tiles — a share of each operand, and its 32 chunks of the result's array — and that the
  tiles' portions are the three arrays.
-/
module

public import proofs.«01_k».proof.Proof.Tile

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (MayWaits)

variable {F : FTy → Type} [FloatOps F]

local notation "𝕄" => MT nD τ sig (HIx 1) (Elt F) ℕ UU ℕ

omit [FloatOps F] in
/-- A points-to at a share is its three parts' at once. -/
theorem three_shares {ℓ : Loc nD τ sig} (f : Buf (Elt F) ℓ) (q : PosShare TreeShare) :
    (ℓ ↦{q} f : sProp 𝕄) = iprop((ℓ ↦{q.left} f) ∗ (ℓ ↦{q.right.left} f) ∗ ℓ ↦{q.right.right} f) := by
  rw [BI.Entails.antisymm (pointsTo_share (PosShare.mem_left_op_right q)).1 (pointsTo_share (PosShare.mem_left_op_right q)).2,
    BI.Entails.antisymm (pointsTo_share (PosShare.mem_left_op_right q.right)).1 (pointsTo_share (PosShare.mem_left_op_right q.right)).2]

/-- Tile `w`'s `k`-th chunk. -/
def chunkNo (w : Fin 32) (k : ℕ) : Fin 1024 := ⟨32 * w.val + k % 32, by omega⟩

/-- The tile on core `c` and subcore `i`. -/
def tileNo (c : Fin 2) (i : Fin 16) : Fin 32 := ⟨2 * i.val + c.val, by omega⟩

/-- Tile `w`'s portion: its shares of `x` and `pos`, and its chunks of the result's array, at `f`. -/
def Portion (d : Dev nD) (mx : Buf (Elt F) (xLoc d)) (mp : Buf (Elt F) (pLoc d)) (f : Buf (Elt F) (oLoc d)) (w : Fin 32) : sProp 𝕄 :=
  iprop((xLoc d ↦{ShareLeaves.leaf 5 fullShare w} mx) ∗ (pLoc d ↦{ShareLeaves.leaf 5 fullShare w} mp)
    ∗ bigSep (Finset.range 32) fun k => oChunk d (chunkNo w k) f)

omit [FloatOps F] in
/-- Big conjunction over a range, as over its `Fin`. -/
theorem range_fin (n : ℕ) (Φ : ℕ → sProp 𝕄) : (bigSep (Finset.range n) Φ : sProp 𝕄) = bigSep Finset.univ fun k : Fin n => Φ k.val := by
  rw [show Finset.range n = (Finset.univ : Finset (Fin n)).map Fin.valEmbedding by
    ext k; simp only [Finset.mem_range, Finset.mem_map, Finset.mem_univ, true_and, Fin.valEmbedding_apply]
    exact ⟨fun h => ⟨⟨k, h⟩, rfl⟩, fun ⟨a, h⟩ => h ▸ a.isLt⟩, BI.bigSep_map]
  rfl

omit [FloatOps F] in
/-- The three arrays, dealt to the 32 tiles. -/
theorem deal (d : Dev nD) (mx : Buf (Elt F) (xLoc d)) (mp : Buf (Elt F) (pLoc d)) (f : Buf (Elt F) (oLoc d)) :
    (iprop((xLoc d ↦{fullShare} mx) ∗ (pLoc d ↦{fullShare} mp) ∗ oLoc d ↦{fullShare} f) : sProp 𝕄)
      = bigSep Finset.univ fun w : Fin 32 => Portion d mx mp f w := by
  unfold Portion
  rw [BI.bigSep_sep', BI.bigSep_sep', oPts_chunks,
    show (xLoc d ↦{fullShare} mx : sProp 𝕄) = bigSep Finset.univ fun w : Fin 32 => xLoc d ↦{ShareLeaves.leaf 5 fullShare w} mx from
      ShareLeaves.pointsTo_leaves Finset.univ mx 5 fullShare,
    show (pLoc d ↦{fullShare} mp : sProp 𝕄) = bigSep Finset.univ fun w : Fin 32 => pLoc d ↦{ShareLeaves.leaf 5 fullShare w} mp from
      ShareLeaves.pointsTo_leaves Finset.univ mp 5 fullShare]
  congr 2
  rw [BI.bigSep_univ_equiv (finProdFinEquiv : Fin 32 × Fin 32 ≃ Fin 1024), BI.bigSep_univ_prod]
  refine BI.bigSep_congr fun w _ => ?_
  rw [range_fin]
  refine BI.bigSep_congr fun k _ => ?_
  congr 1
  apply Fin.ext
  show k.val + 32 * w.val = 32 * w.val + k.val % 32
  omega

omit [FloatOps F] in
/-- The tiles, core by core. -/
theorem by_core (Φ : Fin 32 → sProp 𝕄) :
    (bigSep Finset.univ Φ : sProp 𝕄) = bigSep Finset.univ fun c : Fin 2 => bigSep Finset.univ fun i : Fin 16 => Φ (tileNo c i) := by
  rw [← BI.bigSep_univ_prod fun p : Fin 2 × Fin 16 => Φ (tileNo p.1 p.2),
    BI.bigSep_univ_equiv ((Equiv.prodComm (Fin 2) (Fin 16)).trans (finProdFinEquiv : Fin 16 × Fin 2 ≃ Fin 32))]
  refine BI.bigSep_congr fun p _ => ?_
  congr 1
  apply Fin.ext
  show p.1.val + 2 * p.2.val = 2 * p.2.val + p.1.val
  omega

/-- The tile at coordinates `L`. -/
abbrev tileL (L : grid0.Coords) : Fin 32 := tileNo (L 0) (L 1)

omit [FloatOps F] in
/-- A tile's chunks, as its program counts them. -/
theorem portion_chunks (d : Dev nD) (L : grid0.Coords) (f : Buf (Elt F) (oLoc d)) :
    (bigSep (Finset.range 32) fun k => oChunk d (chunkNo (tileL L) k) f : sProp 𝕄) = bigSep (Finset.range 32) fun k => oChunk d (nOf L k) f := by
  refine BI.bigSep_congr fun k _ => ?_
  congr 1
  apply Fin.ext
  show 32 * (2 * (L 1).val + (L 0).val) + k % 32 = 64 * (L 1).val + 32 * (L 0).val + k % 32
  omega

end Cert.Proof.Sc

end
-- ==== Proof.Body.lean ====
/-
  The task of one tile, from its portion and its own scratch: the program of Proof/Tile.lean between what the launch hands a
  subcore and what it takes back.
-/
module

public import proofs.«01_k».proof.Proof.Deal

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (MayWaits)

variable {F : FTy → Type} [FloatOps F]

local notation "𝕄" => MT nD τ sig (HIx 1) (Elt F) ℕ UU ℕ

section Body

variable (d : Dev nD) (L : grid0.Coords)

/-- The semaphores the task's copies use. -/
def semSet : Finset (DmaSem sig) := {cc0_scratch6.sem, cc0_scratch7.sem, cc0_scratch8.sem, cc0_scratch9.sem, cc0_scratch10.sem, cc0_scratch11.sem, cc0_scratch12.sem, cc0_scratch13.sem, cc0_scratch14.sem}

/-- The buffers its slots are. -/
def bufSet : Finset (Ref sig .scVector) := {cc0_scratch0, cc0_scratch1, cc0_scratch2, cc0_scratch3, cc0_scratch4, cc0_scratch5}

/-- A subcore's cell of a copy semaphore. -/
def cellEmb (thr : Thread nD τ) : DmaSem sig ↪ GSem nD τ sig := ⟨fun s => (thr, .dma s), fun _ _ h => by injection h with _ h; injection h⟩

/-- A subcore's own buffer. -/
def bufEmb (cc : Fin τ.nSC) (ww : Fin τ.nSub) : Ref sig .scVector ↪ DevRef τ sig :=
  ⟨(Proc.scVector cc ww).devRef, Proc.devRef_injective (Proc.scVector cc ww)⟩

theorem semSet_scoped : ∀ s ∈ semSet, (SemLoc.dma s : SemLoc sig).isScoped .scVector = true := by decide

omit [FloatOps F] in
/-- The task's nine semaphores are among the subcore's own. -/
theorem ownSems_slots :
    (ownSems0 (V d (cV L) (jV L)) : sProp 𝕄)
      = iprop((Zero d (cV L) (jV L) cc0_scratch6.sem ∗ Zero d (cV L) (jV L) cc0_scratch7.sem ∗ Zero d (cV L) (jV L) cc0_scratch8.sem ∗ Zero d (cV L) (jV L) cc0_scratch9.sem ∗ Zero d (cV L) (jV L) cc0_scratch10.sem ∗ Zero d (cV L) (jV L) cc0_scratch11.sem ∗ Zero d (cV L) (jV L) cc0_scratch12.sem ∗ Zero d (cV L) (jV L) cc0_scratch13.sem ∗ Zero d (cV L) (jV L) cc0_scratch14.sem)
          ∗ bigSep (ownCells (V d (cV L) (jV L)) \ semSet.map (cellEmb (V d (cV L) (jV L)))) fun g => semVal g 0) := by
  unfold SparseCore.Cfg.ownSems0
  rw [SparseCore.bigSep_sdiff_split' (s := ownCells (V d (cV L) (jV L))) (t := semSet.map (cellEmb (V d (cV L) (jV L)))) (by
    intro g hg
    obtain ⟨s, hs, rfl⟩ := Finset.mem_map.mp hg
    exact mem_ownCells.mpr ⟨rfl, semSet_scoped s hs⟩), BI.bigSep_map]
  unfold semSet
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), BI.bigSep_singleton]
  rfl

omit [FloatOps F] in
/-- The task's six buffers are among the subcore's own. -/
theorem ownBufs_slots :
    (ownBufs (V d (cV L) (jV L)) : sProp 𝕄)
      = iprop((Own d (cV L) (jV L) (Memref.whole cc0_scratch0) ∗ Own d (cV L) (jV L) (Memref.whole cc0_scratch1) ∗ Own d (cV L) (jV L) (Memref.whole cc0_scratch2) ∗ Own d (cV L) (jV L) (Memref.whole cc0_scratch3) ∗ Own d (cV L) (jV L) (Memref.whole cc0_scratch4) ∗ Own d (cV L) (jV L) (Memref.whole cc0_scratch5))
          ∗ bigSep (ownRefs (τ := τ) (.scVector (cV L) (jV L)) \ bufSet.map (bufEmb (cV L) (jV L))) fun b => iprop(∃ f, ((d, b) : Loc nD τ sig) ↦{fullShare} f)) := by
  unfold SparseCore.Cfg.ownBufs
  rw [SparseCore.bigSep_sdiff_split' (s := ownRefs (τ := τ) (.scVector (cV L) (jV L))) (t := bufSet.map (bufEmb (cV L) (jV L))) (by
    intro b hb
    obtain ⟨r, hr, rfl⟩ := Finset.mem_map.mp hb
    unfold bufSet at hr
    simp only [Finset.mem_insert, Finset.mem_singleton] at hr
    rcases hr with rfl | rfl | rfl | rfl | rfl | rfl <;> exact SparseCore.Cfg.mem_ownRefs_of_owner rfl), BI.bigSep_map]
  unfold bufSet
  rw [SparseCore.bigSep_insert' (by decide), SparseCore.bigSep_insert' (by decide), SparseCore.bigSep_insert' (by decide), SparseCore.bigSep_insert' (by decide), SparseCore.bigSep_insert' (by decide), BI.bigSep_singleton]
  rfl

/-- The task on the tile at `L`: its portion comes back with the sums in its chunks, its scratch and semaphores as they were. -/
theorem tile_body (hF : (K (F := F)).Facts) (mx : Buf (Elt F) (xLoc d)) (mp : Buf (Elt F) (pLoc d)) (g : Buf (Elt F) (oLoc d))
    (O : CellTallies nD τ sig (HIx 1)) (W : Waits sig (HIx 1)) (hO : ∀ g, O g none = 0) :
    iprop(levAts (K (F := F)).L (K (F := F)).lev ∗ emp ∗ Portion d mx mp g (tileL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xV (Memref.isWhole_whole _) pV (Memref.isWhole_whole _) oV (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scratch10 cc0_scratch11 cc0_scratch12 cc0_scratch13 cc0_scratch14)
          fun _ => iprop(Portion d mx mp (out mx mp) (tileL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems_slots, ownBufs_slots]
  unfold Portion
  rw [portion_chunks, portion_chunks, three_shares, three_shares mp]
  iintro ⟨#Hlv, -, ⟨⟨Hx0, Hx1, Hx2⟩, ⟨Hp0, Hp1, Hp2⟩, Ho⟩, ⟨⟨B0, B1, B2, B3, B4, B5⟩, Hbufs⟩, ⟨⟨C0, C1, C2, C3, C4, C5, C6, C7, C8⟩, Hsems⟩, HO⟩
  ihave #Hmw := (show levAts (K (F := F)).L (K (F := F)).lev ⊢ MayWaits (V d (cV L) (jV L)) (none : HIx 1) O from
    (K (F := F)).mayWaits_none (thr := V d (cV L) (jV L)) hO) $$ Hlv
  iapply (wp_tile d L (harg5 := Memref.isWhole_whole _) (harg6 := Memref.isWhole_whole _) (harg7 := Memref.isWhole_whole _)
    (harg8 := Memref.isWhole_whole _) (harg9 := Memref.isWhole_whole _) (harg10 := Memref.isWhole_whole _) mx mp
    (ShareLeaves.leaf 5 fullShare (tileL L)).left (ShareLeaves.leaf 5 fullShare (tileL L)).right.left
    (ShareLeaves.leaf 5 fullShare (tileL L)).right.right g O W _ rfl rfl rfl) $$ [Hx0 Hx1 Hx2 Hp0 Hp1 Hp2 Ho B0 B1 B2 B3 B4 B5 C0 C1 C2 C3 C4 C5 C6 C7 C8 HO]
  · isplitr; · iexact Hmw
    unfold Idle Shares
    isplitl [B0 B3 Hx0 Hp0 C0 C3 C6]
    · isplitl [B0]; · iexact B0
      isplitl [B3]; · iexact B3
      isplitl [Hx0 Hp0]
      · isplitl [Hx0]; · iexact Hx0
        iexact Hp0
      isplitl [C0]; · iexact C0
      isplitl [C3]; · iexact C3
      iexact C6
    isplitl [B1 B4 Hx1 Hp1 C1 C4 C7]
    · isplitl [B1]; · iexact B1
      isplitl [B4]; · iexact B4
      isplitl [Hx1 Hp1]
      · isplitl [Hx1]; · iexact Hx1
        iexact Hp1
      isplitl [C1]; · iexact C1
      isplitl [C4]; · iexact C4
      iexact C7
    isplitl [B2 B5 Hx2 Hp2 C2 C5 C8]
    · isplitl [B2]; · iexact B2
      isplitl [B5]; · iexact B5
      isplitl [Hx2 Hp2]
      · isplitl [Hx2]; · iexact Hx2
        iexact Hp2
      isplitl [C2]; · iexact C2
      isplitl [C5]; · iexact C5
      iexact C8
    isplitl [Ho]
    · unfold pend
      rw [← Finset.range_eq_Ico]; iexact Ho
    unfold Owed
    iexists W; isplitr
    · ipureintro; exact fun p hp => .inl hp
    · iexact HO
  unfold Idle Shares done Owed
  iintro ⟨⟨B0, B3, ⟨Hx0, Hp0⟩, C0, C3, C6⟩, ⟨B1, B4, ⟨Hx1, Hp1⟩, C1, C4, C7⟩, ⟨B2, B5, ⟨Hx2, Hp2⟩, C2, C5, C8⟩, Ho, HO⟩
  isplitl [Hx0 Hx1 Hx2 Hp0 Hp1 Hp2 Ho]
  · isplitl [Hx0 Hx1 Hx2]
    · isplitl [Hx0]; · iexact Hx0
      isplitl [Hx1]; · iexact Hx1
      iexact Hx2
    isplitl [Hp0 Hp1 Hp2]
    · isplitl [Hp0]; · iexact Hp0
      isplitl [Hp1]; · iexact Hp1
      iexact Hp2
    iexact Ho
  isplitl [B0 B1 B2 B3 B4 B5 Hbufs]
  · isplitr [Hbufs]
    · isplitl [B0]; · iexact B0
      isplitl [B1]; · iexact B1
      isplitl [B2]; · iexact B2
      isplitl [B3]; · iexact B3
      isplitl [B4]; · iexact B4
      iexact B5
    · iexact Hbufs
  isplitr [HO]
  · isplitr [Hsems]
    · isplitl [C0]; · iexact C0
      isplitl [C1]; · iexact C1
      isplitl [C2]; · iexact C2
      isplitl [C3]; · iexact C3
      isplitl [C4]; · iexact C4
      isplitl [C5]; · iexact C5
      isplitl [C6]; · iexact C6
      isplitl [C7]; · iexact C7
      iexact C8
    · iexact Hsems
  iexact HO

end Body

end Cert.Proof.Sc

end
-- ==== Proof.Launch.lean ====
/-
  The call and the program: what the handshakes carry, the tiles' obligation, the call's split, `main`, and the program's run —
  every execution ends, the operands unchanged, the result's array holding the sums, every semaphore at zero.
-/
module

public import proofs.«01_k».proof.Proof.Body

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (MayWaits)

variable {F : FTy → Type} [FloatOps F]

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-- Tile `w`'s portion at the launch memory. -/
abbrev pin (d : Dev nD) (w : Fin 32) : sProp 𝕄 := Portion d (m (xLoc d)) (m (pLoc d)) (m (oLoc d)) w

/-- Tile `w`'s portion with its sums made. -/
abbrev pout (d : Dev nD) (w : Fin 32) : sProp 𝕄 := Portion d (m (xLoc d)) (m (pLoc d)) (out (m (xLoc d)) (m (pLoc d))) w

instance storable_portion (d : Dev nD) (mx : Buf (Elt F) (xLoc d)) (mp : Buf (Elt F) (pLoc d)) (f : Buf (Elt F) (oLoc d)) (w : Fin 32) :
    BI.Storable (upEmb : UEmb _ 𝕄) (Portion d mx mp f w) := by
  unfold Portion oChunk
  infer_instance

/-! ## What the handshakes carry -/

/-- A core takes its sixteen tiles' portions and brings them back, the sums made; a task takes its own. -/
def P : (K (F := F)).Pay (nD := nD) (Val := Elt F) (Name := ℕ) (U := UU) where
  st := fun q d c => match q with | 0 => bigSep Finset.univ fun i : Fin 16 => pin m d (tileNo (Fin.cast nCore_zero c) i)
  dn := fun q d c => match q with | 0 => bigSep Finset.univ fun i : Fin 16 => pout m d (tileNo (Fin.cast nCore_zero c) i)
  go := fun q d c i => match q with | 0 => pin m d (tileNo (Fin.cast nCore_zero c) (Fin.cast nSub_zero i))
  td := fun q d c i => match q with | 0 => pout m d (tileNo (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => pin m d (tileNo (Fin.cast nCore_zero c) i)))
  dn q d c := match q with
    | 0 => (inferInstance : BI.Storable (upEmb : UEmb _ 𝕄) (bigSep Finset.univ fun i : Fin 16 => pout m d (tileNo (Fin.cast nCore_zero c) i)))
  go q d c i := match q with
    | 0 => (inferInstance : BI.Storable (upEmb : UEmb _ 𝕄) (pin m d (tileNo (Fin.cast nCore_zero c) (Fin.cast nSub_zero i))))
  td q d c i := match q with
    | 0 => (inferInstance : BI.Storable (upEmb : UEmb _ 𝕄) (pout m d (tileNo (Fin.cast nCore_zero c) (Fin.cast nSub_zero i))))

/-! ## The tiles' obligation -/

/-- The coordinates of the tile on core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) pV (Memref.isWhole_whole _) oV (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13 cc0_scratch14) ⟨⟩ c s := rfl

omit [FloatOps F] in
/-- A task's own waits are among those it may record. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (m (xLoc d)) (m (pLoc d)) (m (oLoc d)) O W hO).trans (wp_mono frame _ _ fun _ => obl_post)

/-! ## The call's split -/

omit [FloatOps F] in
theorem bigSep_tasks (Φ : Fin 16 → sProp 𝕄) :
    (bigSep Finset.univ fun i : Fin ((K (F := F)).nSub 0) => Φ (Fin.cast nSub_zero i)) = bigSep Finset.univ Φ :=
  BI.bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  BI.bigSep_congr fun _ _ => congrArg Φ (Fin.ext rfl)

/-- A core's portions are its tasks'. -/
theorem vecSplit : (K (F := F)).VecSplit' (P m) 0 := by
  intro d c
  show bigSep Finset.univ (fun i : Fin 16 => pin m d (tileNo (Fin.cast nCore_zero c) i)) ⊢ |={Set.univ}=> iprop(
      (bigSep Finset.univ fun i : Fin ((K (F := F)).nSub 0) => pin m d (tileNo (Fin.cast nCore_zero c) (Fin.cast nSub_zero i)))
      ∗ ((bigSep Finset.univ fun i : Fin ((K (F := F)).nSub 0) => pout m d (tileNo (Fin.cast nCore_zero c) (Fin.cast nSub_zero i)))
          -∗ bigSep Finset.univ fun i : Fin 16 => pout m d (tileNo (Fin.cast nCore_zero c) i)))
  rw [bigSep_tasks (F := F) (fun i => pin m d (tileNo (Fin.cast nCore_zero c) i)),
    bigSep_tasks (F := F) (fun i => pout m d (tileNo (Fin.cast nCore_zero c) i))]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    BI.bigSep_congr fun _ _ => BI.bigSep_univ_of_subsingleton (0 : Fin 1), bigSep_emp']
  iempintro

/-! ## `main` on the TensorCore -/

/-- The arrays at the launch, and at the end. -/
abbrev arrays (d : Dev nD) (f : Buf (Elt F) (oLoc d)) : sProp 𝕄 :=
  iprop((xLoc d ↦{fullShare} m (xLoc d)) ∗ (pLoc d ↦{fullShare} m (pLoc d)) ∗ oLoc d ↦{fullShare} f)

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (pLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), BI.bigSep_singleton]

/-- The cores' portions, all together, are the arrays: at the call … -/
theorem st0_eq (d : Dev nD) : (bigSep Finset.univ fun c : Fin ((K (F := F)).nCore 0) => (P m).st 0 d c) = arrays m d (m (oLoc d)) :=
  (bigSep_cores fun c => bigSep Finset.univ fun i : Fin 16 => pin m d (tileNo c i)).trans ((by_core (pin m d)).symm.trans (deal d _ _ _).symm)

/-- … and at its end. -/
theorem dn0_eq (d : Dev nD) :
    (bigSep Finset.univ fun c : Fin ((K (F := F)).nCore 0) => (P m).dn 0 d c) = arrays m d (out (m (xLoc d)) (m (pLoc d))) :=
  (bigSep_cores fun c => bigSep Finset.univ fun i : Fin 16 => pout m d (tileNo c i)).trans ((by_core (pout m d)).symm.trans (deal d _ _ _).symm)

abbrev FIN (d : Dev nD) : sProp 𝕄 := arrays m d (out (m (xLoc d)) (m (pLoc d)))

/-- `main` on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hp, Ho⟩, Hts, -⟩, -⟩
  iapply ((K (F := F)).wp_run (D (F := F)) 𝒱 (EH := EH) (P := P m) κ d 0) $$ [Hst Hx Hp Ho Hb Hts]
  isplitr; · iexact Hctx
  isplitl [Hst]; · iexact Hst
  isplitl [Hx Hp Ho]
  · rw [st0_eq]
    isplitl [Hx]; · iexact Hx
    isplitl [Hp]; · iexact Hp
    iexact Ho
  iintro ⟨Hst, Hdn⟩
  ihave Hdn' := (Entails.of_eq (dn0_eq m d)) $$ Hdn
  imodintro
  isplitl [Hst]; · iexact Hst
  isplitr [Hb Hts]
  · iexact Hdn'
  isplitl [Hb] <;> iassumption

/-- The operands are as launched and the result's array holds the sums. -/
def fq (d : Dev nD) (s' : Phys nD τ sig (Elt F)) : Prop :=
  s'.mem.mem (xLoc d) = m (xLoc d) ∧ s'.mem.mem (pLoc d) = m (pLoc d) ∧ s'.mem.mem (oLoc d) = out (m (xLoc d)) (m (pLoc d))

set_option maxRecDepth 16384 in
theorem hfin (d : Dev nD) (s' : Phys nD τ sig (Elt F)) : iprop(FIN m d ∗ SI s') ⊢ (⌜fq m d s'⌝ : sProp 𝕄) := by
  iintro ⟨⟨Hx, Hp, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (SI_pointsTo_agree (st := s') (ℓ := oLoc d) (I := Finset.univ) (q := fullShare) (f := out (m (xLoc d)) (m (pLoc d)))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The operands unchanged, the sums in the result's array, every semaphore at zero. -/
def QC : PUnit × MemSt nD τ sig (Elt F) → Prop := fun r =>
  (∀ c : Dev nD, r.2.mem (xLoc c) = m (xLoc c) ∧ r.2.mem (pLoc c) = m (pLoc c) ∧ r.2.mem (oLoc c) = out (m (xLoc c)) (m (pLoc c))) ∧ r.2.sem = fun _ => 0

/-- The kernel's run, over any float type. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Sc

end
-- ==== Proof.Reference.lean ====
module

public import proofs.«01_k».proof.Proof.Launch
public import proofs.«01_k».proof.Proof.Gen.ReferenceIdeal.Run
public import Idealize.ShloMosaic.Lib.Routing.Ops

@[expose] public section

noncomputable section

namespace Cert.Proof.Ref

open Cert.ReferenceIdeal Cert.ReferenceIdeal.Gen
open Idealize.ShloMosaic Idealize.ShloMosaic.ValueIdx
open Idealize.SL.Sem
open Idealize.ShloMosaic.StableHlo.Predicate (sle_ofNat_iff slt_ofNat_iff ofBool_eq_one_iff)

variable {F : FTy → Type} [FloatOps F]

/-! ## The row numbers

The reference takes row `r` of the table by the clipped number `min (0 + 1 · r) 8191`, counts a negative number from the
end, and keeps a row only where its number lies in `[0, 8191]`. For a row of the table each of these is the number itself. -/

/-- Clipping a row's number at the last row changes nothing. -/
theorem clip_row (r : Fin 8192) : IntOp.minsi (IntOp.addi 0#32 (IntOp.muli 1#32 (BitVec.ofNat 32 r.val))) 8191#32 = BitVec.ofNat 32 r.val := by
  have e : IntOp.addi 0#32 (IntOp.muli 1#32 (BitVec.ofNat 32 r.val)) = BitVec.ofNat 32 r.val := by
    unfold IntOp.addi IntOp.muli
    rw [BitVec.one_mul, BitVec.zero_add]
  rw [e]
  unfold IntOp.minsi
  split
  · rfl
  · rename_i h
    have h' : ¬ r.val < 8191 := fun hlt => h ((ofBool_eq_one_iff _).1 ((slt_ofNat_iff r.val 8191 (by omega) (by omega)).2 hlt))
    rw [show r.val = 8191 by omega]

/-- A row's number is not negative, so it is not counted from the end. -/
theorem wrap_row (r : Fin 8192) :
    Scalar.select (IntOp.cmpi .slt (BitVec.ofNat 32 r.val) 0#32) (IntOp.addi (BitVec.ofNat 32 r.val) 8192#32) (BitVec.ofNat 32 r.val) = BitVec.ofNat 32 r.val := by
  have h : (BitVec.ofNat 32 r.val).slt 0#32 = false :=
    Bool.eq_false_iff.2 fun h => absurd ((slt_ofNat_iff r.val 0 (by omega) (by omega)).1 ((ofBool_eq_one_iff _).2 h)) (by omega)
  unfold Scalar.select IntOp.cmpi
  simp only [h]
  rfl

/-- A row's number is in range. -/
theorem row_in_range (r : Fin 8192) : IntOp.andi (IntOp.cmpi .sge (BitVec.ofNat 32 r.val) 0#32) (IntOp.cmpi .sle (BitVec.ofNat 32 r.val) 8191#32) = 1#1 := by
  have h0 : (0#32).sle (BitVec.ofNat 32 r.val) = true := (ofBool_eq_one_iff _).1 ((sle_ofNat_iff 0 r.val (by omega) (by omega)).2 (by omega))
  have h1 : (BitVec.ofNat 32 r.val).sle 8191#32 = true := (ofBool_eq_one_iff _).1 ((sle_ofNat_iff r.val 8191 (by omega) (by omega)).2 (by omega))
  unfold IntOp.cmpi
  simp only [h0, h1]
  decide

/-- The conjunction of bits that are all set is set. -/
theorem all_set {s t u : Shape} {axes : List (Fin s.rank)} (x : IVec s 1) (hx : ∀ i, x i = 1#1) (h : s.ReducesTo axes t) (hu : 0 < u.numel) (j : t.Idx) :
    Host.reduce IntOp.andi x (constantI u 1 1#1) h hu j = 1#1 := by
  unfold Host.reduce
  generalize (List.finRange s.numel).filter _ = l
  induction l with
  | nil => rfl
  | cons n l ih =>
    rw [List.foldl_cons, hx, show IntOp.andi (constantI u 1 1#1 (Shape.Idx.first hu)) 1#1 = constantI u 1 1#1 (Shape.Idx.first hu) by
      unfold constantI; decide]
    exact ih

/-! ## The reference's terms -/

/-- The numbers of the rows taken. -/
abbrev rowIdx : IVec S8192 32 :=
  minsi (addi (broadcastInDim S8192 ![] bcast_S_S8192 (constantI S_ 32 0#32))
    (muli (broadcastInDim S8192 ![] bcast_S_S8192 (constantI S_ 32 1#32)) (iotaInDim S8192 32 0)))
    (broadcastInDim S8192 ![] bcast_S_S8192 (constantI S_ 32 8191#32))

/-- The same with negative numbers counted from the end, as a column. -/
abbrev colIdx : IVec S8192x1 32 :=
  broadcastInDim S8192x1 ![0] bcast_S8192_S8192x1_0
    (select (cmpi .slt rowIdx (broadcastInDim S8192 ![] bcast_S_S8192 (constantI S_ 32 0#32)))
      (addi rowIdx (broadcastInDim S8192 ![] bcast_S_S8192 (constantI S_ 32 8192#32))) rowIdx)

/-- Entry `r` of the column is `r`. -/
theorem colIdx_apply (i : S8192x1.Idx) : colIdx i = BitVec.ofNat 32 (i 0).val := by
  have e (r : Fin 8192) : rowIdx (ix1 r) = BitVec.ofNat 32 r.val := clip_row r
  have w (r : Fin 8192) (v : BitVec 32) (hv : v = BitVec.ofNat 32 r.val) :
      Scalar.select (IntOp.cmpi .slt v 0#32) (IntOp.addi v 8192#32) v = BitVec.ofNat 32 r.val := hv ▸ wrap_row r
  exact (broadcastInDim_apply (s := S8192) (t := S8192x1) ![0] bcast_S8192_S8192x1_0 _ i (ix1 (i 0)) (fun a => by match a with | ⟨0, _⟩ => rfl)).trans
    (w (i 0) _ (e (i 0)))

/-- Whether each row's number is in range. -/
abbrev inRange : IVec S8192 1 :=
  Host.reduce IntOp.andi
    (andi (cmpi .sge colIdx (broadcastInDim S8192x1 ![] bcast_S_S8192x1 (constantI S_ 32 0#32)))
      (cmpi .sle colIdx (broadcastInDim S8192x1 ![0, 1] bcast_S1x1_S8192x1_0_1 (broadcastInDim S1x1 ![1] bcast_S1_S1x1_1 (constantI S1 32 8191#32)))))
    (constantI S_ 1 1#1) reducesTo_S8192x1_S8192_d1 h_S_

/-- Each is. -/
theorem inRange_apply (r : S8192.Idx) : inRange r = 1#1 := by
  refine all_set _ (fun i => ?_) _ _ r
  show IntOp.andi (IntOp.cmpi .sge (colIdx i) 0#32) (IntOp.cmpi .sle (colIdx i) 8191#32) = 1#1
  rw [colIdx_apply]
  exact row_in_range (i 0)

/-- The rows taken from the table `P`; where a number were out of range, not-a-number. -/
abbrev taken (P : FVec F S8192x1024 .f32) : FVec F S8192x1024 .f32 :=
  select (broadcastInDim S8192x1024 ![0] bcast_S8192_S8192x1024_0 inRange)
    (Host.gather gather_S8192x1024_S8192x1_S8192x1024_1_0_n_n_0_1_11024 P colIdx)
    (broadcastInDim S8192x1024 ![] bcast_S_S8192x1024 (constant S_ .f32 0x7FC00000#32))

/-- The rows taken are the table's own. -/
theorem taken_apply (P : FVec F S8192x1024 .f32) (r : Fin 8192) (c : Fin 1024) : taken P (ix2 r c) = P (ix2 r c) := by
  show Scalar.select (broadcastInDim S8192x1024 ![0] bcast_S8192_S8192x1024_0 inRange (ix2 r c)) (Host.gather _ P colIdx (ix2 r c)) _ = _
  rw [show broadcastInDim S8192x1024 ![0] bcast_S8192_S8192x1024_0 inRange (ix2 r c) = 1#1 from inRange_apply _,
    Routing.gather_row gather_S8192x1024_S8192x1_S8192x1024_1_0_n_n_0_1_11024 rfl rfl rfl rfl rfl P colIdx r c r (colIdx_apply _) (by omega)]
  rfl

/-- The reference's result: to every element of `X` the table's element of the same position and feature is added. -/
theorem value (X : FVec F S4x8192x1024 .f32) (P : FVec F S8192x1024 .f32) :
    addf X (broadcastInDim S4x8192x1024 ![0, 1, 2] bcast_S1x8192x1024_S4x8192x1024_0_1_2
      (broadcastInDim S1x8192x1024 ![1, 2] bcast_S8192x1024_S1x8192x1024_1_2 (taken P))) = Sc.out X P := by
  funext y
  refine congrArg (FloatOps.addf (X y)) ?_
  refine (broadcastInDim_apply (s := S1x8192x1024) (t := S4x8192x1024) ![0, 1, 2] bcast_S1x8192x1024_S4x8192x1024_0_1_2 _ y (ix3 0 (y 1) (y 2))
    (fun a => by match a with | ⟨0, _⟩ => rfl | ⟨1, _⟩ => rfl | ⟨2, _⟩ => rfl)).trans ?_
  refine (broadcastInDim_apply (s := S8192x1024) (t := S1x8192x1024) ![1, 2] bcast_S8192x1024_S1x8192x1024_1_2 _ _ (ix2 (y 1) (y 2))
    (fun a => by match a with | ⟨0, _⟩ => rfl | ⟨1, _⟩ => rfl)).trans ?_
  exact taken_apply P (y 1) (y 2)

/-! ## The reference's run -/

/-- Over any float type the reference ends with its result the sums, its arguments unchanged and every semaphore at zero. -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v10) = Sc.out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨fun c => ⟨(h c).1.trans (value _ _), (h c).2⟩, sem_eq_zero_of_no_sems (by decide) r.2⟩)
    (Value.run m ρ)

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel ends with its operands unchanged and every semaphore at zero. -/
theorem frame_kernel : Cert.quiescent_Kernel := fun m ρ _ =>
  (θ_run Cert.KernelIdeal.defs _ _).mono (fun _ h => ⟨fun c => ⟨(h.1 c).1, (h.1 c).2.1⟩, h.2⟩) (Sc.run_main (F := Bits) m ρ)

/-- The same of the kernel read at the ideal floats. -/
theorem frame_kernelIdeal : Cert.quiescent_KernelIdeal := fun m ρ _ =>
  (θ_run Cert.KernelIdeal.defs _ _).mono (fun _ h => ⟨fun c => ⟨(h.1 c).1, (h.1 c).2.1⟩, h.2⟩) (Sc.run_main (F := Ideal) m ρ)

/-- The same of the reference at the ideal floats. -/
theorem frame_referenceIdeal : Cert.quiescent_ReferenceIdeal := fun m ρ _ =>
  (θ_run Cert.ReferenceIdeal.defs _ _).mono (fun _ h => ⟨fun c => (h.1 c).2, h.2⟩) (Ref.run_main (F := Ideal) m ρ)

/-- The same of the reference at the bit-exact floats. -/
theorem frame_reference : Cert.quiescent_Reference := fun m ρ _ =>
  (θ_run Cert.ReferenceIdeal.defs _ _).mono (fun _ h => ⟨fun c => (h.1 c).2, h.2⟩) (Ref.run_main (F := Bits) m ρ)

/-- At the ideal floats the kernel and the reference end with the same sums. -/
theorem algebraic : Cert.algebraic_KernelIdeal_ReferenceIdeal := fun m ρ m' ρ' _ hagree =>
  ⟨fun c => Sc.out (m (Sc.xLoc c)) (m (Sc.pLoc c)),
    (θ_run Cert.KernelIdeal.defs _ _).mono (fun _ h c => ⟨(h.1 c).2.2, (h.1 c).1, (h.1 c).2.1⟩) (Sc.run_main (F := Ideal) m ρ),
    (θ_run Cert.ReferenceIdeal.defs _ _).mono
      (fun _ h c => ⟨(h.1 c).1.trans (congrArg₂ Sc.out (hagree c).1 (hagree c).2), (h.1 c).2⟩) (Ref.run_main (F := Ideal) m' ρ')⟩

/-- So do they at the bit-exact floats, bit for bit. -/
theorem bitexact : Cert.bitexact_Kernel_Reference := fun m ρ m' ρ' _ hagree =>
  ⟨fun c => Sc.out (F := Bits) (m (Sc.xLoc c)) (m (Sc.pLoc c)),
    (θ_run Cert.KernelIdeal.defs _ _).mono (fun _ h c => ⟨(h.1 c).2.2, (h.1 c).1, (h.1 c).2.1⟩) (Sc.run_main (F := Bits) m ρ),
    (θ_run Cert.ReferenceIdeal.defs _ _).mono
      (fun _ h c => ⟨(h.1 c).1.trans (congrArg₂ (Sc.out (F := Bits)) (hagree c).1 (hagree c).2), (h.1 c).2⟩) (Ref.run_main (F := Bits) m' ρ')⟩

/-- Every claim made of the kernel and the reference. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
